-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x4096 : Shape := ⟨3, ![4, 3072, 4096]⟩
abbrev S3072x4096 : Shape := ⟨2, ![3072, 4096]⟩
abbrev S3072 : Shape := ⟨1, ![3072]⟩
abbrev S256x256 : Shape := ⟨2, ![256, 256]⟩
abbrev S1x3072 : Shape := ⟨2, ![1, 3072]⟩
abbrev S1536x8x3072 : Shape := ⟨3, ![1536, 8, 3072]⟩
abbrev S4x1x3072 : Shape := ⟨3, ![4, 1, 3072]⟩
abbrev S1x256x4096 : Shape := ⟨3, ![1, 256, 4096]⟩
abbrev S32x8x3072 : Shape := ⟨3, ![32, 8, 3072]⟩
abbrev S1x1x256 : Shape := ⟨3, ![1, 1, 256]⟩
abbrev S256x4096 : Shape := ⟨2, ![256, 4096]⟩
abbrev S256x128 : Shape := ⟨2, ![256, 128]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S256x3072 : Shape := ⟨2, ![256, 3072]⟩

abbrev nBuf : Space → Nat
  | .hbm => 8
  | .vmem => 12
  | .smem => 0
  | _ => 0

abbrev bufTy : (tb : Table) → Fin (tcTables nBuf tb) → BufTy
  | .hbm, ⟨0, _⟩ => ⟨S4x3072x4096, .bf16⟩
  | .hbm, ⟨1, _⟩ => ⟨S3072x4096, .i8⟩
  | .hbm, ⟨2, _⟩ => ⟨S3072, .f32⟩
  | .hbm, ⟨3, _⟩ => ⟨S256x256, .bf16⟩
  | .hbm, ⟨4, _⟩ => ⟨S1x3072, .f32⟩
  | .hbm, ⟨5, _⟩ => ⟨S1536x8x3072, .bf16⟩
  | .hbm, ⟨6, _⟩ => ⟨S4x3072x4096, .i8⟩
  | .hbm, ⟨7, _⟩ => ⟨S4x1x3072, .f32⟩
  | .local _ .vmem, ⟨0, _⟩ => ⟨S1x256x4096, .bf16⟩
  | .local _ .vmem, ⟨1, _⟩ => ⟨S1x256x4096, .bf16⟩
  | .local _ .vmem, ⟨2, _⟩ => ⟨S256x256, .bf16⟩
  | .local _ .vmem, ⟨3, _⟩ => ⟨S3072x4096, .i8⟩
  | .local _ .vmem, ⟨4, _⟩ => ⟨S1x3072, .f32⟩
  | .local _ .vmem, ⟨5, _⟩ => ⟨S32x8x3072, .bf16⟩
  | .local _ .vmem, ⟨6, _⟩ => ⟨S32x8x3072, .bf16⟩
  | .local _ .vmem, ⟨7, _⟩ => ⟨S1x256x4096, .i8⟩
  | .local _ .vmem, ⟨8, _⟩ => ⟨S1x256x4096, .i8⟩
  | .local _ .vmem, ⟨9, _⟩ => ⟨S1x1x256, .f32⟩
  | .local _ .vmem, ⟨10, _⟩ => ⟨S1x1x256, .f32⟩
  | .local _ .vmem, ⟨11, _⟩ => ⟨S256x4096, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x8x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x3072x4096 : Shape := ⟨3, ![4, 3072, 4096]⟩
abbrev S3072x4096 : Shape := ⟨2, ![3072, 4096]⟩
abbrev S3072 : Shape := ⟨1, ![3072]⟩
abbrev S128x128 : Shape := ⟨2, ![128, 128]⟩
abbrev S1536x8x3072 : Shape := ⟨3, ![1536, 8, 3072]⟩
abbrev S4x1x3072 : Shape := ⟨3, ![4, 1, 3072]⟩
abbrev S4x3072x32x128 : Shape := ⟨4, ![4, 3072, 32, 128]⟩
abbrev S4x3072 : Shape := ⟨2, ![4, 3072]⟩
abbrev S4x3072x1 : Shape := ⟨3, ![4, 3072, 1]⟩
abbrev S4x3072x3072 : Shape := ⟨3, ![4, 3072, 3072]⟩
abbrev S1x1x3072 : Shape := ⟨3, ![1, 1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072x4096, .bf16⟩
  | .hbm, ⟨1, _⟩ => ⟨S3072x4096, .i8⟩
  | .hbm, ⟨2, _⟩ => ⟨S3072, .f32⟩
  | .hbm, ⟨3, _⟩ => ⟨S128x128, .f32⟩
  | .hbm, ⟨4, _⟩ => ⟨S1536x8x3072, .bf16⟩
  | .hbm, ⟨5, _⟩ => ⟨S4x3072x4096, .i8⟩
  | .hbm, ⟨6, _⟩ => ⟨S4x1x3072, .f32⟩
  | .local _ .vmem, ⟨0, _⟩ => ⟨S4x3072x4096, .bf16⟩
  | .local _ .vmem, ⟨1, _⟩ => ⟨S128x128, .f32⟩
  | .local _ .vmem, ⟨2, _⟩ => ⟨S3072x4096, .i8⟩
  | .local _ .vmem, ⟨3, _⟩ => ⟨S3072, .f32⟩
  | .local _ .vmem, ⟨4, _⟩ => ⟨S1536x8x3072, .bf16⟩
  | .local _ .vmem, ⟨5, _⟩ => ⟨S4x3072x4096, .i8⟩
  | .local _ .vmem, ⟨6, _⟩ => ⟨S4x1x3072, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/- Hand-written, untrusted: THE MATHEMATICS OF ONE TOKEN, at exact values and without any program: a row `v` of 4096 rotated
   activations is quantised to int4 codes at one scale, and its product with a row of int8 weight codes is scaled back. Both
   programs are shown to compute these functions (KernelBlock.lean, RefValue.lean), the one on blocks of 256 rows, the
   other on whole arrays. -/
module

public import Idealize.ShloMosaic.Lib.Pointwise

@[expose] public section

noncomputable section

namespace Cert.Proof.Spec

open Idealize.ShloMosaic

/-- The magnitude of a value. -/
def mag (a : EReal) : EReal := FloatOps.absf (F := Ideal) (φ := .f32) a

/-- The token's scale at the greatest magnitude `a` of its row: `a / 7`, and 1 for a row of zeros (0x40E00000 is 7). -/
def scaleOf (a : EReal) : EReal := if 0 < a then Ideal.div a (Ideal.ofBits .f32 0x40E00000#32) else 1

/-- The int4 code of a value at a scale: the quotient rounded to nearest even and clipped to −7 … 7. -/
def codeOf (s a : EReal) : BitVec 8 :=
  FloatOps.fptosi (F := Ideal) (φ := .f32) 8 (min (Ideal.ofBits .f32 0x40E00000#32)
    (max (Ideal.ofBits .f32 0xC0E00000#32) (Ideal.liftRound Ideal.roundHalfEven (Ideal.div a s))))

/-- The greatest magnitude of a row (0xFF800000 is −∞). -/
def rowMax (v : Fin 4096 → EReal) : EReal :=
  Finset.univ.fold max (Ideal.ofBits .f32 0xFF800000#32) fun k => mag (v k)

/-- The row's scale. -/
def rowScale (v : Fin 4096 → EReal) : EReal := scaleOf (rowMax v)

/-- The row's codes. -/
def rowCode (v : Fin 4096 → EReal) (k : Fin 4096) : BitVec 8 := codeOf (rowScale v) (v k)

/-- The exact integer product of the row's codes with a row of weight codes. -/
def rowDot (v : Fin 4096 → EReal) (w : Fin 4096 → BitVec 8) : ℤ := ∑ k, (rowCode v k).toInt * (w k).toInt

/-- The layer's output: the integer product at the token's scale and the weight row's scale `s`. -/
def rowOut (v : Fin 4096 → EReal) (w : Fin 4096 → BitVec 8) (s : EReal) : EReal :=
  (((rowDot v w : ℤ) : ℝ) : EReal) * rowScale v * s

theorem mag_eq (a : EReal) : mag a = max a (-a) := rfl

theorem ofBits_zero : Ideal.ofBits .f32 0x00000000#32 = 0 := by pointwise

theorem ofBits_bot : Ideal.ofBits .f32 0xFF800000#32 = ⊥ := by
  simp [Ideal.ofBits, Ideal.ieee]

/-- A magnitude is not negative. -/
theorem mag_nonneg (a : EReal) : 0 ≤ mag a := by
  rw [mag_eq]
  rcases le_total 0 a with h | h
  · exact le_max_of_le_left h
  · exact le_max_of_le_right (by simpa using EReal.neg_le_neg_iff.mpr h)

/-- A maximum over a finite range lies under `z` exactly when its start and every entry do. -/
theorem fold_max_le {n : Nat} (b z : EReal) (f : Fin n → EReal) :
    Finset.univ.fold max b f ≤ z ↔ b ≤ z ∧ ∀ k, f k ≤ z := by
  rw [Finset.fold_max_le]; simp

/-- The greatest magnitude of a row by its upper bounds. -/
theorem rowMax_le (v : Fin 4096 → EReal) (z : EReal) : rowMax v ≤ z ↔ ∀ k, mag (v k) ≤ z := by
  rw [rowMax, fold_max_le, ofBits_bot]; simp

end Cert.Proof.Spec

end
-- ==== Proof.IntDot.lean ====
/- Hand-written, untrusted: THE INTEGER PRODUCT IS EXACT. A code lies in −7 … 7 (`codeOf_abs`), so at 4096 positions against
   8-bit weights the products' magnitudes total at most 4096·7·128 = 3,670,016; that is within the integer matrix unit's
   exact range, and within 32 bits, so the unit's word read as a signed integer is the exact sum (`matmulI8_row`). -/
module

public import proofs.«01_k».proof.Proof.Spec
public import Idealize.ShloMosaic.Lib.IntMxu
public import Idealize.ShloMosaic.Lib.Pointwise

@[expose] public section

noncomputable section

namespace Cert.Proof.IntDot

open Idealize.ShloMosaic

theorem ofBits_seven : Ideal.ofBits .f32 0x40E00000#32 = ((7 : ℝ) : EReal) := by
  simp [Ideal.ofBits, Ideal.ieee]
  rw [← EReal.coe_mul]
  norm_num

theorem ofBits_neg_seven : Ideal.ofBits .f32 0xC0E00000#32 = ((-7 : ℝ) : EReal) := by
  simp [Ideal.ofBits, Ideal.ieee]
  rw [← EReal.coe_mul]
  norm_num

/-- Truncating a value between −7 and 7 to a signed 8-bit word gives an integer between −7 and 7. -/
theorem fptosi_abs (x : EReal) (h1 : ((-7 : ℝ) : EReal) ≤ x) (h2 : x ≤ ((7 : ℝ) : EReal)) :
    ((Ideal.fptosi 8 x).toInt).natAbs ≤ 7 := by
  induction x using EReal.rec with
  | bot => exact absurd h1 (by simp)
  | top => exact absurd h2 (by simp)
  | coe r =>
    have h1 : (-7 : ℝ) ≤ r := EReal.coe_le_coe_iff.mp h1
    have h2 : r ≤ 7 := EReal.coe_le_coe_iff.mp h2
    have hn : -7 ≤ (if 0 ≤ r then ⌊r⌋ else ⌈r⌉) ∧ (if 0 ≤ r then ⌊r⌋ else ⌈r⌉) ≤ 7 := by
      split
      · rename_i h0
        exact ⟨le_trans (by norm_num) (Int.floor_nonneg.mpr h0), by
          have : (⌊r⌋ : ℝ) ≤ 7 := (Int.floor_le r).trans h2
          exact_mod_cast this⟩
      · rename_i h0
        exact ⟨by
          have : (-7 : ℝ) ≤ ⌈r⌉ := h1.trans (Int.le_ceil r)
          exact_mod_cast this, by
          have : ⌈r⌉ ≤ 0 := Int.ceil_le.mpr (by exact_mod_cast (not_le.mp h0).le)
          omega⟩
    rw [Ideal.fptosi, Ideal.toIntClamped_coe, BitVec.toInt_ofInt]
    generalize (if 0 ≤ r then ⌊r⌋ else ⌈r⌉) = n at hn
    have e : max (-((2 ^ (8 - 1) : Nat) : Int)) (min (((2 ^ (8 - 1) : Nat) : Int) - 1) n) = n := by norm_num; omega
    rw [e, Int.bmod_eq_of_le (by omega) (by omega)]
    omega

/-- A code is an integer between −7 and 7, at every value and scale. -/
theorem codeOf_abs (s a : EReal) : (Spec.codeOf s a).toInt.natAbs ≤ 7 := by
  refine fptosi_abs _ ?_ ?_
  · rw [ofBits_seven, ofBits_neg_seven]
    exact le_min (EReal.coe_le_coe_iff.mpr (by norm_num)) (le_max_left _ _)
  · rw [ofBits_seven]; exact min_le_left _ _

/-- The integer matmul at a result index, its left operand's row `u` within −7 … 7 and 4096 long: the exact sum. -/
theorem matmulI8_row {sl sr so : Shape} (d : DotDims sl sr so) {a : Fin sl.rank} (hc : d.lhsContracting = [a])
    (hK : sl.size a = 4096) (lhs : IVec sl 8) (rhs : IVec sr 8) (j : so.Idx) (u v : Fin 4096 → BitVec 8)
    (hl : ∀ k, lhs (d.lhsIdx j (d.contrIdx₁ hc hK k)) = u k) (hr : ∀ k, rhs (d.rhsIdx j (d.contrIdx₁ hc hK k)) = v k)
    (hu : ∀ k, (u k).toInt.natAbs ≤ 7) :
    (matmulI8 IntMxuNumerics.v7x d lhs rhs (constantI so 32 0#32) j).toInt = ∑ k, (u k).toInt * (v k).toInt := by
  have habs : absDotI8 d lhs rhs j ≤ IntMxuNumerics.v7x.exactUpTo := by
    unfold absDotI8
    rw [d.sum_contr₁ hc hK]
    simp only [hl, hr]
    have hle : ∀ k ∈ (Finset.univ : Finset (Fin 4096)), ((u k).toInt * (v k).toInt).natAbs ≤ 7 * 128 := by
      intro k _
      rw [Int.natAbs_mul]
      exact Nat.mul_le_mul (hu k) (natAbs_toInt_i8_le _)
    refine (Finset.sum_le_card_nsmul Finset.univ _ _ hle).trans ?_
    rw [Finset.card_univ, Fintype.card_fin, smul_eq_mul]
    decide
  rw [matmulI8_toInt _ d lhs rhs _ j rfl habs, dotI8, d.sum_contr₁ hc hK]
  simp only [hl, hr]

end Cert.Proof.IntDot

end
-- ==== Proof.Literals.lean ====
/- Hand-written, untrusted: THE TWO PRINTED TABLES IN CLOSED FORM. The kernel's constant is a 256×256 table of bf16 words, the
   reference's a 128×128 table of f32 words; both print as digit trees of 128-way matches. Here: an entry of the kernel's
   table is the word of ±1 where row and column lie in the same half, of ±0 elsewhere, and an entry of the reference's table
   is the word of ±2^(-7/2) as f32 rounds it; in both the sign is negative exactly when the number of bits that the row and
   the column share is odd (`signBit`: the Sylvester-Hadamard signs). A row of 128 entries is checked as one list
   (`row_ok`, `rowR_ok`), so that each match is opened once and not once an entry. -/
module

public import proofs.«01_k».proof.Defs
import Mathlib.Tactic.IntervalCases

@[expose] public section

set_option maxRecDepth 65536

namespace Cert.Proof.Literals

open Idealize.ShloMosaic

/-- 1 where the 7-bit numbers `r` and `c` have an odd number of one-bits in common, else 0 (27030 = 0x6996 lists the
    parities of 0 to 15). -/
def signBit (r c : Nat) : Nat :=
  Nat.land (Nat.shiftRight 27030 (Nat.land (Nat.xor (Nat.land r c) (Nat.shiftRight (Nat.land r c) 4)) 15)) 1

/-- The kernel table's word at row `r`, column `c`: ±1 (0x3F80 = 16256) on the two diagonal blocks, ±0 off them; the sign
    bit is 32768. -/
def tileWord (r c : Nat) : Nat :=
  bif Nat.beq (r / 128) (c / 128) then 16256 + 32768 * signBit (r % 128) (c % 128) else 32768 * signBit (r % 128) (c % 128)

/-- The reference table's word at row `r`, column `c`: ±0x3DB504F3 (1035273459), the sign bit 2147483648. -/
def hadWord (r c : Nat) : Nat := 1035273459 + 2147483648 * signBit r c

/-- `p` holds of every element of `l` with its position, counted from `k`. -/
def checkFrom {α : Type} (p : Nat → α → Bool) : Nat → List α → Bool
  | _, [] => true
  | k, a :: l => p k a && checkFrom p (k + 1) l

/-- A checked list, read at a position. -/
theorem checkFrom_getD {α : Type} (p : Nat → α → Bool) (d : α) : ∀ (l : List α) (k j : Nat), checkFrom p k l = true →
    j < l.length → p (k + j) (l.getD j d) = true
  | [], _, _, _, hj => absurd hj (Nat.not_lt_zero _)
  | a :: l, k, 0, h, _ => by
      simp only [checkFrom, Bool.and_eq_true] at h; exact h.1
  | a :: l, k, j + 1, h, hj => by
      simp only [checkFrom, Bool.and_eq_true] at h
      have := checkFrom_getD p d l (k + 1) j h.2 (by simpa using hj)
      rw [Nat.add_right_comm, Nat.add_assoc] at this
      exact this

/-- An entry of row `128 b + K` of 128 words of the kernel's table is the closed form's. -/
def tileOk (b K j : Nat) (t : BitVec 16) : Bool :=
  Nat.beq t.toNat (tileWord ((16384 * b + 128 * K + j) / 256) ((16384 * b + 128 * K + j) % 256))

/-- An entry of row `K` of the reference's table is the closed form's. -/
def hadOk (K j : Nat) (t : BitVec 32) : Bool := Nat.beq t.toNat (hadWord K j)

/-- A row of KernelIdeal's table is right at every position when its 128 words, as one list, are. -/
theorem row_ok (p : Nat → BitVec 16 → Bool) (a0 a1 a2 a3 a4 a5 a6 a7 a8 a9 a10 a11 a12 a13 a14 a15 a16 a17 a18 a19 a20 a21 a22 a23 a24 a25 a26 a27 a28 a29
    a30 a31 a32 a33 a34 a35 a36 a37 a38 a39 a40 a41 a42 a43 a44 a45 a46 a47 a48 a49 a50 a51 a52 a53 a54 a55 a56
    a57 a58 a59 a60 a61 a62 a63 a64 a65 a66 a67 a68 a69 a70 a71 a72 a73 a74 a75 a76 a77 a78 a79 a80 a81 a82 a83
    a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 d : BitVec 16)
    (j : Nat) (hj : j < 128) (h : checkFrom p 0 (a0 :: a1 :: a2 :: a3 :: a4 :: a5 :: a6 :: a7 :: a8 :: a9 :: a10 :: a11 :: a12 :: a13 :: a14 :: a15 :: a16 ::
    a17 :: a18 :: a19 :: a20 :: a21 :: a22 :: a23 :: a24 :: a25 :: a26 :: a27 :: a28 :: a29 :: a30 :: a31 :: a32
    :: a33 :: a34 :: a35 :: a36 :: a37 :: a38 :: a39 :: a40 :: a41 :: a42 :: a43 :: a44 :: a45 :: a46 :: a47 ::
    a48 :: a49 :: a50 :: a51 :: a52 :: a53 :: a54 :: a55 :: a56 :: a57 :: a58 :: a59 :: a60 :: a61 :: a62 :: a63
    :: a64 :: a65 :: a66 :: a67 :: a68 :: a69 :: a70 :: a71 :: a72 :: a73 :: a74 :: a75 :: a76 :: a77 :: a78 ::
    a79 :: a80 :: a81 :: a82 :: a83 :: a84 :: a85 :: a86 :: a87 :: a88 :: a89 :: a90 :: a91 :: a92 :: a93 :: a94
    :: a95 :: a96 :: a97 :: a98 :: a99 :: a100 :: a101 :: a102 :: a103 :: a104 :: a105 :: a106 :: a107 :: a108 ::
    a109 :: a110 :: a111 :: a112 :: a113 :: a114 :: a115 :: a116 :: a117 :: a118 :: a119 :: a120 :: a121 :: a122
    :: a123 :: a124 :: a125 :: a126 :: a127 :: []) = true) :
    p j (Cert.KernelIdeal.lit0t0_0.match_1 (fun _ => BitVec 16) j (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)) = true := by
  have e : Cert.KernelIdeal.lit0t0_0.match_1 (fun _ => BitVec 16) j (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)
      = (a0 :: a1 :: a2 :: a3 :: a4 :: a5 :: a6 :: a7 :: a8 :: a9 :: a10 :: a11 :: a12 :: a13 :: a14 :: a15 :: a16 ::
    a17 :: a18 :: a19 :: a20 :: a21 :: a22 :: a23 :: a24 :: a25 :: a26 :: a27 :: a28 :: a29 :: a30 :: a31 :: a32
    :: a33 :: a34 :: a35 :: a36 :: a37 :: a38 :: a39 :: a40 :: a41 :: a42 :: a43 :: a44 :: a45 :: a46 :: a47 ::
    a48 :: a49 :: a50 :: a51 :: a52 :: a53 :: a54 :: a55 :: a56 :: a57 :: a58 :: a59 :: a60 :: a61 :: a62 :: a63
    :: a64 :: a65 :: a66 :: a67 :: a68 :: a69 :: a70 :: a71 :: a72 :: a73 :: a74 :: a75 :: a76 :: a77 :: a78 ::
    a79 :: a80 :: a81 :: a82 :: a83 :: a84 :: a85 :: a86 :: a87 :: a88 :: a89 :: a90 :: a91 :: a92 :: a93 :: a94
    :: a95 :: a96 :: a97 :: a98 :: a99 :: a100 :: a101 :: a102 :: a103 :: a104 :: a105 :: a106 :: a107 :: a108 ::
    a109 :: a110 :: a111 :: a112 :: a113 :: a114 :: a115 :: a116 :: a117 :: a118 :: a119 :: a120 :: a121 :: a122
    :: a123 :: a124 :: a125 :: a126 :: a127 :: []).getD j d := by
    interval_cases j <;> rfl
  rw [e]
  have := checkFrom_getD p d _ 0 j h hj
  rwa [Nat.zero_add] at this

/-- A stack of 128 rows is right when each of its rows is. -/
theorem rows_ok (q : Nat → BitVec 16 → Bool) (a0 a1 a2 a3 a4 a5 a6 a7 a8 a9 a10 a11 a12 a13 a14 a15 a16 a17 a18 a19 a20 a21 a22 a23 a24 a25 a26 a27 a28 a29
    a30 a31 a32 a33 a34 a35 a36 a37 a38 a39 a40 a41 a42 a43 a44 a45 a46 a47 a48 a49 a50 a51 a52 a53 a54 a55 a56
    a57 a58 a59 a60 a61 a62 a63 a64 a65 a66 a67 a68 a69 a70 a71 a72 a73 a74 a75 a76 a77 a78 a79 a80 a81 a82 a83
    a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 d : BitVec 16)
    (K : Nat) (hK : K < 128) (h0 : q 0 a0 = true) (h1 : q 1 a1 = true) (h2 : q 2 a2 = true) (h3 : q 3 a3 = true) (h4 : q 4 a4 = true) (h5 :
    q 5 a5 = true) (h6 : q 6 a6 = true) (h7 : q 7 a7 = true) (h8 : q 8 a8 = true) (h9 : q 9 a9 = true) (h10 : q 10
    a10 = true) (h11 : q 11 a11 = true) (h12 : q 12 a12 = true) (h13 : q 13 a13 = true) (h14 : q 14 a14 = true)
    (h15 : q 15 a15 = true) (h16 : q 16 a16 = true) (h17 : q 17 a17 = true) (h18 : q 18 a18 = true) (h19 : q 19
    a19 = true) (h20 : q 20 a20 = true) (h21 : q 21 a21 = true) (h22 : q 22 a22 = true) (h23 : q 23 a23 = true)
    (h24 : q 24 a24 = true) (h25 : q 25 a25 = true) (h26 : q 26 a26 = true) (h27 : q 27 a27 = true) (h28 : q 28
    a28 = true) (h29 : q 29 a29 = true) (h30 : q 30 a30 = true) (h31 : q 31 a31 = true) (h32 : q 32 a32 = true)
    (h33 : q 33 a33 = true) (h34 : q 34 a34 = true) (h35 : q 35 a35 = true) (h36 : q 36 a36 = true) (h37 : q 37
    a37 = true) (h38 : q 38 a38 = true) (h39 : q 39 a39 = true) (h40 : q 40 a40 = true) (h41 : q 41 a41 = true)
    (h42 : q 42 a42 = true) (h43 : q 43 a43 = true) (h44 : q 44 a44 = true) (h45 : q 45 a45 = true) (h46 : q 46
    a46 = true) (h47 : q 47 a47 = true) (h48 : q 48 a48 = true) (h49 : q 49 a49 = true) (h50 : q 50 a50 = true)
    (h51 : q 51 a51 = true) (h52 : q 52 a52 = true) (h53 : q 53 a53 = true) (h54 : q 54 a54 = true) (h55 : q 55
    a55 = true) (h56 : q 56 a56 = true) (h57 : q 57 a57 = true) (h58 : q 58 a58 = true) (h59 : q 59 a59 = true)
    (h60 : q 60 a60 = true) (h61 : q 61 a61 = true) (h62 : q 62 a62 = true) (h63 : q 63 a63 = true) (h64 : q 64
    a64 = true) (h65 : q 65 a65 = true) (h66 : q 66 a66 = true) (h67 : q 67 a67 = true) (h68 : q 68 a68 = true)
    (h69 : q 69 a69 = true) (h70 : q 70 a70 = true) (h71 : q 71 a71 = true) (h72 : q 72 a72 = true) (h73 : q 73
    a73 = true) (h74 : q 74 a74 = true) (h75 : q 75 a75 = true) (h76 : q 76 a76 = true) (h77 : q 77 a77 = true)
    (h78 : q 78 a78 = true) (h79 : q 79 a79 = true) (h80 : q 80 a80 = true) (h81 : q 81 a81 = true) (h82 : q 82
    a82 = true) (h83 : q 83 a83 = true) (h84 : q 84 a84 = true) (h85 : q 85 a85 = true) (h86 : q 86 a86 = true)
    (h87 : q 87 a87 = true) (h88 : q 88 a88 = true) (h89 : q 89 a89 = true) (h90 : q 90 a90 = true) (h91 : q 91
    a91 = true) (h92 : q 92 a92 = true) (h93 : q 93 a93 = true) (h94 : q 94 a94 = true) (h95 : q 95 a95 = true)
    (h96 : q 96 a96 = true) (h97 : q 97 a97 = true) (h98 : q 98 a98 = true) (h99 : q 99 a99 = true) (h100 : q 100
    a100 = true) (h101 : q 101 a101 = true) (h102 : q 102 a102 = true) (h103 : q 103 a103 = true) (h104 : q 104
    a104 = true) (h105 : q 105 a105 = true) (h106 : q 106 a106 = true) (h107 : q 107 a107 = true) (h108 : q 108
    a108 = true) (h109 : q 109 a109 = true) (h110 : q 110 a110 = true) (h111 : q 111 a111 = true) (h112 : q 112
    a112 = true) (h113 : q 113 a113 = true) (h114 : q 114 a114 = true) (h115 : q 115 a115 = true) (h116 : q 116
    a116 = true) (h117 : q 117 a117 = true) (h118 : q 118 a118 = true) (h119 : q 119 a119 = true) (h120 : q 120
    a120 = true) (h121 : q 121 a121 = true) (h122 : q 122 a122 = true) (h123 : q 123 a123 = true) (h124 : q 124
    a124 = true) (h125 : q 125 a125 = true) (h126 : q 126 a126 = true) (h127 : q 127 a127 = true) :
    q K (Cert.KernelIdeal.lit0t0_0.match_1 (fun _ => BitVec 16) K (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)) = true := by
  interval_cases K <;> assumption

/-- A row of ReferenceIdeal's table is right at every position when its 128 words, as one list, are. -/
theorem rowR_ok (p : Nat → BitVec 32 → Bool) (a0 a1 a2 a3 a4 a5 a6 a7 a8 a9 a10 a11 a12 a13 a14 a15 a16 a17 a18 a19 a20 a21 a22 a23 a24 a25 a26 a27 a28 a29
    a30 a31 a32 a33 a34 a35 a36 a37 a38 a39 a40 a41 a42 a43 a44 a45 a46 a47 a48 a49 a50 a51 a52 a53 a54 a55 a56
    a57 a58 a59 a60 a61 a62 a63 a64 a65 a66 a67 a68 a69 a70 a71 a72 a73 a74 a75 a76 a77 a78 a79 a80 a81 a82 a83
    a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 d : BitVec 32)
    (j : Nat) (hj : j < 128) (h : checkFrom p 0 (a0 :: a1 :: a2 :: a3 :: a4 :: a5 :: a6 :: a7 :: a8 :: a9 :: a10 :: a11 :: a12 :: a13 :: a14 :: a15 :: a16 ::
    a17 :: a18 :: a19 :: a20 :: a21 :: a22 :: a23 :: a24 :: a25 :: a26 :: a27 :: a28 :: a29 :: a30 :: a31 :: a32
    :: a33 :: a34 :: a35 :: a36 :: a37 :: a38 :: a39 :: a40 :: a41 :: a42 :: a43 :: a44 :: a45 :: a46 :: a47 ::
    a48 :: a49 :: a50 :: a51 :: a52 :: a53 :: a54 :: a55 :: a56 :: a57 :: a58 :: a59 :: a60 :: a61 :: a62 :: a63
    :: a64 :: a65 :: a66 :: a67 :: a68 :: a69 :: a70 :: a71 :: a72 :: a73 :: a74 :: a75 :: a76 :: a77 :: a78 ::
    a79 :: a80 :: a81 :: a82 :: a83 :: a84 :: a85 :: a86 :: a87 :: a88 :: a89 :: a90 :: a91 :: a92 :: a93 :: a94
    :: a95 :: a96 :: a97 :: a98 :: a99 :: a100 :: a101 :: a102 :: a103 :: a104 :: a105 :: a106 :: a107 :: a108 ::
    a109 :: a110 :: a111 :: a112 :: a113 :: a114 :: a115 :: a116 :: a117 :: a118 :: a119 :: a120 :: a121 :: a122
    :: a123 :: a124 :: a125 :: a126 :: a127 :: []) = true) :
    p j (Cert.ReferenceIdeal.lit0t0_0.match_1 (fun _ => BitVec 32) j (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)) = true := by
  have e : Cert.ReferenceIdeal.lit0t0_0.match_1 (fun _ => BitVec 32) j (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)
      = (a0 :: a1 :: a2 :: a3 :: a4 :: a5 :: a6 :: a7 :: a8 :: a9 :: a10 :: a11 :: a12 :: a13 :: a14 :: a15 :: a16 ::
    a17 :: a18 :: a19 :: a20 :: a21 :: a22 :: a23 :: a24 :: a25 :: a26 :: a27 :: a28 :: a29 :: a30 :: a31 :: a32
    :: a33 :: a34 :: a35 :: a36 :: a37 :: a38 :: a39 :: a40 :: a41 :: a42 :: a43 :: a44 :: a45 :: a46 :: a47 ::
    a48 :: a49 :: a50 :: a51 :: a52 :: a53 :: a54 :: a55 :: a56 :: a57 :: a58 :: a59 :: a60 :: a61 :: a62 :: a63
    :: a64 :: a65 :: a66 :: a67 :: a68 :: a69 :: a70 :: a71 :: a72 :: a73 :: a74 :: a75 :: a76 :: a77 :: a78 ::
    a79 :: a80 :: a81 :: a82 :: a83 :: a84 :: a85 :: a86 :: a87 :: a88 :: a89 :: a90 :: a91 :: a92 :: a93 :: a94
    :: a95 :: a96 :: a97 :: a98 :: a99 :: a100 :: a101 :: a102 :: a103 :: a104 :: a105 :: a106 :: a107 :: a108 ::
    a109 :: a110 :: a111 :: a112 :: a113 :: a114 :: a115 :: a116 :: a117 :: a118 :: a119 :: a120 :: a121 :: a122
    :: a123 :: a124 :: a125 :: a126 :: a127 :: []).getD j d := by
    interval_cases j <;> rfl
  rw [e]
  have := checkFrom_getD p d _ 0 j h hj
  rwa [Nat.zero_add] at this

/-- A stack of 128 rows is right when each of its rows is. -/
theorem rowsR_ok (q : Nat → BitVec 32 → Bool) (a0 a1 a2 a3 a4 a5 a6 a7 a8 a9 a10 a11 a12 a13 a14 a15 a16 a17 a18 a19 a20 a21 a22 a23 a24 a25 a26 a27 a28 a29
    a30 a31 a32 a33 a34 a35 a36 a37 a38 a39 a40 a41 a42 a43 a44 a45 a46 a47 a48 a49 a50 a51 a52 a53 a54 a55 a56
    a57 a58 a59 a60 a61 a62 a63 a64 a65 a66 a67 a68 a69 a70 a71 a72 a73 a74 a75 a76 a77 a78 a79 a80 a81 a82 a83
    a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 d : BitVec 32)
    (K : Nat) (hK : K < 128) (h0 : q 0 a0 = true) (h1 : q 1 a1 = true) (h2 : q 2 a2 = true) (h3 : q 3 a3 = true) (h4 : q 4 a4 = true) (h5 :
    q 5 a5 = true) (h6 : q 6 a6 = true) (h7 : q 7 a7 = true) (h8 : q 8 a8 = true) (h9 : q 9 a9 = true) (h10 : q 10
    a10 = true) (h11 : q 11 a11 = true) (h12 : q 12 a12 = true) (h13 : q 13 a13 = true) (h14 : q 14 a14 = true)
    (h15 : q 15 a15 = true) (h16 : q 16 a16 = true) (h17 : q 17 a17 = true) (h18 : q 18 a18 = true) (h19 : q 19
    a19 = true) (h20 : q 20 a20 = true) (h21 : q 21 a21 = true) (h22 : q 22 a22 = true) (h23 : q 23 a23 = true)
    (h24 : q 24 a24 = true) (h25 : q 25 a25 = true) (h26 : q 26 a26 = true) (h27 : q 27 a27 = true) (h28 : q 28
    a28 = true) (h29 : q 29 a29 = true) (h30 : q 30 a30 = true) (h31 : q 31 a31 = true) (h32 : q 32 a32 = true)
    (h33 : q 33 a33 = true) (h34 : q 34 a34 = true) (h35 : q 35 a35 = true) (h36 : q 36 a36 = true) (h37 : q 37
    a37 = true) (h38 : q 38 a38 = true) (h39 : q 39 a39 = true) (h40 : q 40 a40 = true) (h41 : q 41 a41 = true)
    (h42 : q 42 a42 = true) (h43 : q 43 a43 = true) (h44 : q 44 a44 = true) (h45 : q 45 a45 = true) (h46 : q 46
    a46 = true) (h47 : q 47 a47 = true) (h48 : q 48 a48 = true) (h49 : q 49 a49 = true) (h50 : q 50 a50 = true)
    (h51 : q 51 a51 = true) (h52 : q 52 a52 = true) (h53 : q 53 a53 = true) (h54 : q 54 a54 = true) (h55 : q 55
    a55 = true) (h56 : q 56 a56 = true) (h57 : q 57 a57 = true) (h58 : q 58 a58 = true) (h59 : q 59 a59 = true)
    (h60 : q 60 a60 = true) (h61 : q 61 a61 = true) (h62 : q 62 a62 = true) (h63 : q 63 a63 = true) (h64 : q 64
    a64 = true) (h65 : q 65 a65 = true) (h66 : q 66 a66 = true) (h67 : q 67 a67 = true) (h68 : q 68 a68 = true)
    (h69 : q 69 a69 = true) (h70 : q 70 a70 = true) (h71 : q 71 a71 = true) (h72 : q 72 a72 = true) (h73 : q 73
    a73 = true) (h74 : q 74 a74 = true) (h75 : q 75 a75 = true) (h76 : q 76 a76 = true) (h77 : q 77 a77 = true)
    (h78 : q 78 a78 = true) (h79 : q 79 a79 = true) (h80 : q 80 a80 = true) (h81 : q 81 a81 = true) (h82 : q 82
    a82 = true) (h83 : q 83 a83 = true) (h84 : q 84 a84 = true) (h85 : q 85 a85 = true) (h86 : q 86 a86 = true)
    (h87 : q 87 a87 = true) (h88 : q 88 a88 = true) (h89 : q 89 a89 = true) (h90 : q 90 a90 = true) (h91 : q 91
    a91 = true) (h92 : q 92 a92 = true) (h93 : q 93 a93 = true) (h94 : q 94 a94 = true) (h95 : q 95 a95 = true)
    (h96 : q 96 a96 = true) (h97 : q 97 a97 = true) (h98 : q 98 a98 = true) (h99 : q 99 a99 = true) (h100 : q 100
    a100 = true) (h101 : q 101 a101 = true) (h102 : q 102 a102 = true) (h103 : q 103 a103 = true) (h104 : q 104
    a104 = true) (h105 : q 105 a105 = true) (h106 : q 106 a106 = true) (h107 : q 107 a107 = true) (h108 : q 108
    a108 = true) (h109 : q 109 a109 = true) (h110 : q 110 a110 = true) (h111 : q 111 a111 = true) (h112 : q 112
    a112 = true) (h113 : q 113 a113 = true) (h114 : q 114 a114 = true) (h115 : q 115 a115 = true) (h116 : q 116
    a116 = true) (h117 : q 117 a117 = true) (h118 : q 118 a118 = true) (h119 : q 119 a119 = true) (h120 : q 120
    a120 = true) (h121 : q 121 a121 = true) (h122 : q 122 a122 = true) (h123 : q 123 a123 = true) (h124 : q 124
    a124 = true) (h125 : q 125 a125 = true) (h126 : q 126 a126 = true) (h127 : q 127 a127 = true) :
    q K (Cert.ReferenceIdeal.lit0t0_0.match_1 (fun _ => BitVec 32) K (fun _ => a0) (fun _ => a1) (fun _ => a2) (fun _ => a3) (fun _ => a4) (fun _ => a5) (fun _ => a6) (fun _ =>
    a7) (fun _ => a8) (fun _ => a9) (fun _ => a10) (fun _ => a11) (fun _ => a12) (fun _ => a13) (fun _ => a14)
    (fun _ => a15) (fun _ => a16) (fun _ => a17) (fun _ => a18) (fun _ => a19) (fun _ => a20) (fun _ => a21) (fun
    _ => a22) (fun _ => a23) (fun _ => a24) (fun _ => a25) (fun _ => a26) (fun _ => a27) (fun _ => a28) (fun _ =>
    a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun
    _ => a44) (fun _ => a45) (fun _ => a46) (fun _ => a47) (fun _ => a48) (fun _ => a49) (fun _ => a50) (fun _ =>
    a51) (fun _ => a52) (fun _ => a53) (fun _ => a54) (fun _ => a55) (fun _ => a56) (fun _ => a57) (fun _ => a58)
    (fun _ => a59) (fun _ => a60) (fun _ => a61) (fun _ => a62) (fun _ => a63) (fun _ => a64) (fun _ => a65) (fun
    _ => a66) (fun _ => a67) (fun _ => a68) (fun _ => a69) (fun _ => a70) (fun _ => a71) (fun _ => a72) (fun _ =>
    a73) (fun _ => a74) (fun _ => a75) (fun _ => a76) (fun _ => a77) (fun _ => a78) (fun _ => a79) (fun _ => a80)
    (fun _ => a81) (fun _ => a82) (fun _ => a83) (fun _ => a84) (fun _ => a85) (fun _ => a86) (fun _ => a87) (fun
    _ => a88) (fun _ => a89) (fun _ => a90) (fun _ => a91) (fun _ => a92) (fun _ => a93) (fun _ => a94) (fun _ =>
    a95) (fun _ => a96) (fun _ => a97) (fun _ => a98) (fun _ => a99) (fun _ => a100) (fun _ => a101) (fun _ =>
    a102) (fun _ => a103) (fun _ => a104) (fun _ => a105) (fun _ => a106) (fun _ => a107) (fun _ => a108) (fun _
    => a109) (fun _ => a110) (fun _ => a111) (fun _ => a112) (fun _ => a113) (fun _ => a114) (fun _ => a115) (fun
    _ => a116) (fun _ => a117) (fun _ => a118) (fun _ => a119) (fun _ => a120) (fun _ => a121) (fun _ => a122)
    (fun _ => a123) (fun _ => a124) (fun _ => a125) (fun _ => a126) (fun _ => a127) (fun _ => d)) = true := by
  interval_cases K <;> assumption

/-- Entries 0 to 16383 of the kernel's table. -/
theorem tile_part0 (i : Nat) : tileOk 0 (i / 128 % 128) (i % 128) (Cert.KernelIdeal.lit0t1_0 i) = true := by
  refine rows_ok (fun K t => tileOk 0 K (i % 128) t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
    (i / 128 % 128) (Nat.mod_lt _ (by decide)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_
  all_goals
    exact row_ok _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
      (i % 128) (Nat.mod_lt _ (by decide)) (by decide +kernel)

/-- Entries 16384 to 32767 of the kernel's table. -/
theorem tile_part1 (i : Nat) : tileOk 1 (i / 128 % 128) (i % 128) (Cert.KernelIdeal.lit0t1_1 i) = true := by
  refine rows_ok (fun K t => tileOk 1 K (i % 128) t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
    (i / 128 % 128) (Nat.mod_lt _ (by decide)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_
  all_goals
    exact row_ok _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
      (i % 128) (Nat.mod_lt _ (by decide)) (by decide +kernel)

/-- Entries 32768 to 49151 of the kernel's table. -/
theorem tile_part2 (i : Nat) : tileOk 2 (i / 128 % 128) (i % 128) (Cert.KernelIdeal.lit0t1_2 i) = true := by
  refine rows_ok (fun K t => tileOk 2 K (i % 128) t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
    (i / 128 % 128) (Nat.mod_lt _ (by decide)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_
  all_goals
    exact row_ok _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
      (i % 128) (Nat.mod_lt _ (by decide)) (by decide +kernel)

/-- Entries 49152 to 65535 of the kernel's table. -/
theorem tile_part3 (i : Nat) : tileOk 3 (i / 128 % 128) (i % 128) (Cert.KernelIdeal.lit0t1_3 i) = true := by
  refine rows_ok (fun K t => tileOk 3 K (i % 128) t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
    (i / 128 % 128) (Nat.mod_lt _ (by decide)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_
  all_goals
    exact row_ok _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
      (i % 128) (Nat.mod_lt _ (by decide)) (by decide +kernel)

/-- Every entry of the reference's table. -/
theorem had_part (i : Nat) (hi : i < 16384) : hadOk (i / 128) (i % 128) (Cert.ReferenceIdeal.lit0t i) = true := by
  refine rowsR_ok (fun K t => hadOk K (i % 128) t) _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
    (i / 128) (by omega) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ ?_
  all_goals
    exact rowR_ok _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _
      (i % 128) (Nat.mod_lt _ (by decide)) (by decide +kernel)

end Cert.Proof.Literals

end
-- ==== Proof.Rotate.lean ====
/- Hand-written, untrusted: THE TWO ROTATIONS ARE ONE. The kernel multiplies 256 columns at a time by a table that holds the
   128×128 sign matrix twice on its diagonal and zeros elsewhere, and scales the sum by 2^(-7/2) as f32 rounds it; the
   reference multiplies 128 columns at a time by the sign matrix already scaled by that word. At exact values a zero entry
   contributes 0 whatever it multiplies (also an infinity), and a positive finite factor distributes over a sum of extended
   reals; so the two agree at every row (`rotTile_eq`). -/
module

public import proofs.«01_k».proof.Proof.Literals
public import Idealize.ShloMosaic.Lib.Pointwise
public import Idealize.ShloMosaic.Lib.IdealHost

@[expose] public section

noncomputable section

namespace Cert.Proof.Rotate

open Idealize.ShloMosaic Literals

/-- 2^(-7/2) as f32 rounds it. -/
def norm : EReal := Ideal.ofBits .f32 0x3DB504F3#32

/-- The kernel's table at exact values. -/
def tile (i j : Fin 256) : EReal := Ideal.ofBits .bf16 (Cert.KernelIdeal.lit0t (256 * i.val + j.val))

/-- The reference's table at exact values. -/
def had (i j : Fin 128) : EReal := Ideal.ofBits .f32 (Cert.ReferenceIdeal.lit0t (128 * i.val + j.val))

/-- The kernel's rotation of a row: blocks of 256 columns by the table, the sum scaled. -/
def rotTile (x : Fin 4096 → EReal) (k : Fin 4096) : EReal :=
  (∑ i : Fin 256, x ⟨k.val / 256 * 256 + i.val, by omega⟩ * tile i ⟨k.val % 256, by omega⟩) * norm

/-- The reference's rotation of a row: blocks of 128 columns by the scaled Hadamard matrix. -/
def rot (x : Fin 4096 → EReal) (k : Fin 4096) : EReal :=
  ∑ i : Fin 128, x ⟨k.val / 128 * 128 + i.val, by omega⟩ * had i ⟨k.val % 128, by omega⟩

/-- Every word of the kernel's table. -/
theorem tile_word (i : Nat) (hi : i < 65536) :
    (Cert.KernelIdeal.lit0t i).toNat = tileWord (i / 256) (i % 256) := by
  have h : i / 16384 = 0 ∨ i / 16384 = 1 ∨ i / 16384 = 2 ∨ i / 16384 = 3 := by omega
  rcases h with h | h | h | h
  · have e : Cert.KernelIdeal.lit0t i = Cert.KernelIdeal.lit0t1_0 i := by unfold Cert.KernelIdeal.lit0t; rw [h]; rfl
    have p := Nat.eq_of_beq_eq_true (tile_part0 i)
    rw [e, p, show 16384 * 0 + 128 * (i / 128 % 128) + i % 128 = i by omega]
  · have e : Cert.KernelIdeal.lit0t i = Cert.KernelIdeal.lit0t1_1 i := by unfold Cert.KernelIdeal.lit0t; rw [h]; rfl
    have p := Nat.eq_of_beq_eq_true (tile_part1 i)
    rw [e, p, show 16384 * 1 + 128 * (i / 128 % 128) + i % 128 = i by omega]
  · have e : Cert.KernelIdeal.lit0t i = Cert.KernelIdeal.lit0t1_2 i := by unfold Cert.KernelIdeal.lit0t; rw [h]; rfl
    have p := Nat.eq_of_beq_eq_true (tile_part2 i)
    rw [e, p, show 16384 * 2 + 128 * (i / 128 % 128) + i % 128 = i by omega]
  · have e : Cert.KernelIdeal.lit0t i = Cert.KernelIdeal.lit0t1_3 i := by unfold Cert.KernelIdeal.lit0t; rw [h]; rfl
    have p := Nat.eq_of_beq_eq_true (tile_part3 i)
    rw [e, p, show 16384 * 3 + 128 * (i / 128 % 128) + i % 128 = i by omega]

theorem signBit_cases (r c : Nat) : signBit r c = 0 ∨ signBit r c = 1 := by
  have : signBit r c = Nat.shiftRight 27030 (Nat.land (Nat.xor (Nat.land r c) (Nat.shiftRight (Nat.land r c) 4)) 15) % 2 :=
    Nat.and_one_is_mod _
  omega

/-- The sign of an entry. -/
def sgn (r c : Nat) : EReal := if signBit r c = 0 then 1 else -1

theorem bf16_one : Ideal.ofBits .bf16 (BitVec.ofNat 16 16256) = 1 := Ideal.ofBits_one_bf16
theorem bf16_neg_one : Ideal.ofBits .bf16 (BitVec.ofNat 16 49024) = -1 := by
  rw [show BitVec.ofNat 16 49024 = 0xBF80#16 by decide, Ideal.ofBits_neg_one_bf16]; simp
theorem bf16_zero : Ideal.ofBits .bf16 (BitVec.ofNat 16 0) = 0 := Ideal.ofBits_zero_bf16
theorem bf16_neg_zero : Ideal.ofBits .bf16 (BitVec.ofNat 16 32768) = 0 := by simp [Ideal.ofBits, Ideal.ieee]

/-- The scale is a positive real. -/
theorem norm_real : ∃ r : ℝ, 0 ≤ r ∧ norm = (r : EReal) := by
  refine ⟨(1 * (2 ^ 23 + 3474675 : Nat) * (2 : ℝ) ^ ((123 : Int) - 127 - 23) : ℝ), by positivity, ?_⟩
  simp [norm, Ideal.ofBits, Ideal.ieee]
  try norm_num

theorem f32_norm : Ideal.ofBits .f32 (BitVec.ofNat 32 1035273459) = norm := rfl
theorem f32_neg_norm : Ideal.ofBits .f32 (BitVec.ofNat 32 3182757107) = -norm := by
  simp [norm, Ideal.ofBits, Ideal.ieee]
  try norm_num

/-- An entry of the kernel's table: the sign on the diagonal blocks, 0 off them. -/
theorem tile_eq (i j : Fin 256) :
    tile i j = if i.val / 128 = j.val / 128 then sgn (i.val % 128) (j.val % 128) else 0 := by
  have h := tile_word (256 * i.val + j.val) (by omega)
  rw [show (256 * i.val + j.val) / 256 = i.val by omega, show (256 * i.val + j.val) % 256 = j.val by omega] at h
  have hw : Cert.KernelIdeal.lit0t (256 * i.val + j.val) = BitVec.ofNat 16 (tileWord i.val j.val) := by
    rw [← h, BitVec.ofNat_toNat, BitVec.setWidth_eq]
  rw [tile, hw, tileWord, sgn]
  by_cases hd : i.val / 128 = j.val / 128
  · rw [if_pos hd, show Nat.beq (i.val / 128) (j.val / 128) = true by rw [hd]; exact Nat.beq_refl _, cond_true]
    rcases signBit_cases (i.val % 128) (j.val % 128) with e | e
    · rw [e, if_pos rfl]; exact bf16_one
    · rw [e, if_neg (by decide)]; exact bf16_neg_one
  · have hb : Nat.beq (i.val / 128) (j.val / 128) = false := by
      rw [← Bool.not_eq_true]; intro hh; exact hd (Nat.eq_of_beq_eq_true hh)
    rw [if_neg hd, hb, cond_false]
    rcases signBit_cases (i.val % 128) (j.val % 128) with e | e
    · rw [e]; exact bf16_zero
    · rw [e]; exact bf16_neg_zero

/-- An entry of the reference's table: the sign times the scale. -/
theorem had_eq (i j : Fin 128) : had i j = sgn i.val j.val * norm := by
  have h := Nat.eq_of_beq_eq_true (had_part (128 * i.val + j.val) (by omega))
  rw [show (128 * i.val + j.val) / 128 = i.val by omega, show (128 * i.val + j.val) % 128 = j.val by omega] at h
  have hw : Cert.ReferenceIdeal.lit0t (128 * i.val + j.val) = BitVec.ofNat 32 (hadWord i.val j.val) := by
    rw [← h, BitVec.ofNat_toNat, BitVec.setWidth_eq]
  rw [had, hw, hadWord, sgn]
  rcases signBit_cases i.val j.val with e | e
  · rw [e, if_pos rfl, one_mul]; exact f32_norm
  · rw [e, if_neg (by decide), neg_one_mul]; exact f32_neg_norm

/-- A finite factor ≥ 0 distributes over a finite sum of extended reals. -/
theorem sum_mul {n : Nat} (f : Fin n → EReal) (c : EReal) (h0 : 0 ≤ c) (ht : c ≠ ⊤) :
    (∑ i, f i) * c = ∑ i, f i * c := by
  classical
  refine Finset.induction_on (Finset.univ : Finset (Fin n)) (by simp) ?_
  intro a s ha ih
  rw [Finset.sum_insert ha, Finset.sum_insert ha, EReal.right_distrib_of_nonneg_of_ne_top h0 ht, ih]

/-- THE ROTATIONS AGREE at every row of extended reals. -/
theorem rotTile_eq (x : Fin 4096 → EReal) (k : Fin 4096) : rotTile x k = rot x k := by
  obtain ⟨r, hr, hn⟩ := norm_real
  have hs : ∀ f : Fin 256 → EReal, ∑ i, f i
      = ∑ i : Fin 128, f ⟨i.val, by omega⟩ + ∑ i : Fin 128, f ⟨128 + i.val, by omega⟩ := fun f =>
    Fin.sum_univ_add (a := 128) (b := 128) f
  have half : ∑ i : Fin 256, x ⟨k.val / 256 * 256 + i.val, by omega⟩ * tile i ⟨k.val % 256, by omega⟩
      = ∑ i : Fin 128, x ⟨k.val / 128 * 128 + i.val, by omega⟩ * sgn i.val (k.val % 128) := by
    rw [hs]
    rcases (by omega : k.val % 256 / 128 = 0 ∨ k.val % 256 / 128 = 1) with e | e
    · have z : ∑ i : Fin 128, x ⟨k.val / 256 * 256 + (128 + i.val), by omega⟩
          * tile ⟨128 + i.val, by omega⟩ ⟨k.val % 256, by omega⟩ = 0 :=
        Finset.sum_eq_zero fun i _ => by
          rw [tile_eq, if_neg (by show ¬ (128 + i.val) / 128 = k.val % 256 / 128; omega), mul_zero]
      rw [z, add_zero]
      refine Finset.sum_congr rfl fun i _ => ?_
      rw [tile_eq, if_pos (by show i.val / 128 = k.val % 256 / 128; omega)]
      congr 2
      · apply Fin.ext; show k.val / 256 * 256 + i.val = k.val / 128 * 128 + i.val; omega
      · show i.val % 128 = i.val; omega
      · show k.val % 256 % 128 = k.val % 128; omega
    · have z : ∑ i : Fin 128, x ⟨k.val / 256 * 256 + i.val, by omega⟩
          * tile ⟨i.val, by omega⟩ ⟨k.val % 256, by omega⟩ = 0 :=
        Finset.sum_eq_zero fun i _ => by
          rw [tile_eq, if_neg (by show ¬ i.val / 128 = k.val % 256 / 128; omega), mul_zero]
      rw [z, zero_add]
      refine Finset.sum_congr rfl fun i _ => ?_
      rw [tile_eq, if_pos (by show (128 + i.val) / 128 = k.val % 256 / 128; omega)]
      congr 2
      · apply Fin.ext; show k.val / 256 * 256 + (128 + i.val) = k.val / 128 * 128 + i.val; omega
      · show (128 + i.val) % 128 = i.val; omega
      · show k.val % 256 % 128 = k.val % 128; omega
  rw [rotTile, rot, half, sum_mul _ _ (by rw [hn]; exact EReal.coe_nonneg.mpr hr) (by rw [hn]; exact EReal.coe_ne_top r)]
  refine Finset.sum_congr rfl fun i _ => ?_
  rw [had_eq, mul_assoc]

end Cert.Proof.Rotate

end
-- ==== Proof.KernelOps.lean ====
/- Hand-written, untrusted: WHAT ONE BLOCK OF THE KERNEL COMPUTES, payload by payload and entry by entry, in the functions
   of one token (Spec.lean). The kernel walks the 4096 columns in sixteen chunks of 256: each is rotated (`chunk_apply`) and
   folded into 128 running lane maxima (`laneMax`, `lanes_eq`). The lanes' maximum is the greatest magnitude of the row
   (`max_lanes`): both have the same upper bounds, which is how the two orders of taking maxima are compared. -/
module

public import proofs.«01_k».proof.Proof.Gen.KernelIdeal.Skeleton
public import proofs.«01_k».proof.Proof.Spec
public import proofs.«01_k».proof.Proof.IntDot
public import proofs.«01_k».proof.Proof.Rotate
public import Idealize.ShloMosaic.Lib.Pointwise

@[expose] public section

set_option maxRecDepth 16384

noncomputable section

namespace Cert.Proof.KernelOps

open Cert.KernelIdeal Cert.KernelIdeal.Gen Idealize.ShloMosaic

/-- One rotated chunk at an entry. -/
theorem chunk_apply (T : Vec Ideal S256x256 .bf16) (xc : Vec Ideal S1x256x256 .bf16) (r c : Fin 256) :
    k0_pay2 T xc (ix2 r c) = (∑ i : Fin 256, xc (ix3 0 r i) * T (ix2 i c)) * Rotate.norm := by
  pointwise [k0_pay2, Rotate.norm]

/-- The lane maxima after a chunk: its two halves' magnitudes taken in. -/
def laneMax (m : FVec Ideal S256x128 .f32) (c : FVec Ideal S256x256 .f32) : FVec Ideal S256x128 .f32 :=
  maximumf (maximumf m (absf (extractStridedSlice S256x128 ![0, 0] c slices_S256x256_o0_0_S256x128)))
    (absf (extractStridedSlice S256x128 ![0, 128] c slices_S256x256_o0_128_S256x128))

theorem laneMax_apply (m : FVec Ideal S256x128 .f32) (c : FVec Ideal S256x256 .f32) (r : Fin 256) (q : Fin 128) :
    laneMax m c (ix2 r q) = max (max (m (ix2 r q)) (Spec.mag (c (ix2 r ⟨q.val, by omega⟩))))
      (Spec.mag (c (ix2 r ⟨128 + q.val, by omega⟩))) := by
  pointwise [laneMax]
  rfl

/-- The lane maxima's upper bounds. -/
theorem laneMax_le (m : FVec Ideal S256x128 .f32) (c : FVec Ideal S256x256 .f32) (r : Fin 256) (q : Fin 128) (z : EReal) :
    laneMax m c (ix2 r q) ≤ z ↔ m (ix2 r q) ≤ z ∧ Spec.mag (c (ix2 r ⟨q.val, by omega⟩)) ≤ z
      ∧ Spec.mag (c (ix2 r ⟨128 + q.val, by omega⟩)) ≤ z := by
  rw [laneMax_apply, max_le_iff, max_le_iff, and_assoc]

/-- The lane maxima after the first `n` chunks, from zeros. -/
def lanes (T : Vec Ideal S256x256 .bf16) (l : Nat → Vec Ideal S1x256x256 .bf16) : Nat → FVec Ideal S256x128 .f32
  | 0 => broadcast S256x128 (Scalar.ofBits .f32 0x00000000#32)
  | n + 1 => laneMax (lanes T l n) (k0_pay2 T (l n))

/-- The kernel's lane maxima, spread over its payloads, are those of the sixteen chunks. -/
theorem lanes_eq (T : Vec Ideal S256x256 .bf16) (l : Nat → Vec Ideal S1x256x256 .bf16) :
    k0_pay42 T (k0_pay34 T (k0_pay27 T (k0_pay20 T (l 7)) (k0_pay22 T (k0_pay15 T (k0_pay6 T (l 0) (l 1))
      (k0_pay7 T (l 2)) k0_pay8 (l 3) (l 4)) (l 5) (l 6) (l 7)) (l 8) (l 9)) (k0_pay28 T (l 10)) (l 11) (l 12))
      (k0_pay35 T (l 13)) (l 14) (l 15) = lanes T l 16 := rfl

theorem lanes_le (T : Vec Ideal S256x256 .bf16) (l : Nat → Vec Ideal S1x256x256 .bf16) (r : Fin 256) (q : Fin 128)
    (z : EReal) : ∀ n, lanes T l n (ix2 r q) ≤ z ↔ 0 ≤ z ∧ ∀ g < n, Spec.mag (k0_pay2 T (l g) (ix2 r ⟨q.val, by omega⟩)) ≤ z
      ∧ Spec.mag (k0_pay2 T (l g) (ix2 r ⟨128 + q.val, by omega⟩)) ≤ z
  | 0 => by
      have e : lanes T l 0 (ix2 r q) = 0 := by
        show Ideal.ofBits .f32 0x00000000#32 = 0
        exact Spec.ofBits_zero
      rw [e]; simp
  | n + 1 => by
      rw [lanes, laneMax_le, lanes_le T l r q z n, and_assoc]
      refine and_congr_right fun _ => ⟨fun h g hg => ?_, fun h => ⟨fun g hg => h g (by omega), h n (by omega)⟩⟩
      rcases Nat.lt_succ_iff_lt_or_eq.mp hg with hg | rfl
      · exact h.1 g hg
      · exact h.2

/-- A row of the rotated block, chunk by chunk. -/
def row (T : Vec Ideal S256x256 .bf16) (l : Nat → Vec Ideal S1x256x256 .bf16) (r : Fin 256) (k : Fin 4096) : EReal :=
  k0_pay2 T (l (k.val / 256)) (ix2 r ⟨k.val % 256, by omega⟩)

theorem row_at (T : Vec Ideal S256x256 .bf16) (l : Nat → Vec Ideal S1x256x256 .bf16) (r : Fin 256) (g c : Nat)
    (hg : g < 16) (hc : c < 256) : row T l r ⟨256 * g + c, by omega⟩ = k0_pay2 T (l g) (ix2 r ⟨c, hc⟩) := by
  have e1 : (256 * g + c) / 256 = g := by omega
  have e2 : (256 * g + c) % 256 = c := by omega
  simp only [row, e1, e2]

/-- THE LANES' MAXIMUM IS THE ROW'S. -/
theorem max_lanes (T : Vec Ideal S256x256 .bf16) (l : Nat → Vec Ideal S1x256x256 .bf16) (r : Fin 256) :
    Finset.univ.fold max (Ideal.ofBits .f32 0xFF800000#32) (fun q : Fin 128 => lanes T l 16 (ix2 r q))
      = Spec.rowMax (row T l r) := by
  refine eq_of_forall_ge_iff fun z => ?_
  rw [Spec.fold_max_le, Spec.rowMax_le, Spec.ofBits_bot]
  simp only [bot_le, true_and, lanes_le]
  constructor
  · intro h k
    by_cases hk : k.val % 256 < 128
    · exact ((h ⟨k.val % 256, hk⟩).2 (k.val / 256) (by omega)).1
    · have := ((h ⟨k.val % 256 - 128, by omega⟩).2 (k.val / 256) (by omega)).2
      have e : (⟨128 + (k.val % 256 - 128), by omega⟩ : Fin 256) = ⟨k.val % 256, by omega⟩ := Fin.ext (by
        show 128 + (k.val % 256 - 128) = k.val % 256; omega)
      rw [row, ← e]; exact this
  · intro h q
    refine ⟨(Spec.mag_nonneg _).trans (h 0), fun g hg => ⟨?_, ?_⟩⟩
    · rw [← row_at T l r g q.val hg (by omega)]; exact h _
    · rw [← row_at T l r g (128 + q.val) hg (by omega)]; exact h _

/-- The scale of a token, as a column. -/
theorem scale_apply (v : FVec Ideal S256x128 .f32) (r : Fin 256) :
    k0_pay43 v (ix2 r 0) = Spec.scaleOf (Finset.univ.fold max (Ideal.ofBits .f32 0xFF800000#32)
      fun q : Fin 128 => v (ix2 r q)) := by
  pointwise [k0_pay43]
  rfl

/-- The scale of a token, as the row that is stored. -/
theorem scales_apply (v : FVec Ideal S256x128 .f32) (r : Fin 256) :
    k0_pay44 v (ix3 0 0 r) = Spec.scaleOf (Finset.univ.fold max (Ideal.ofBits .f32 0xFF800000#32)
      fun q : Fin 128 => v (ix2 r q)) := by
  pointwise [k0_pay44]
  rfl

/-- The codes of the block `x` at scales `s`. -/
def codeVec (x : FVec Ideal S256x4096 .f32) (s : FVec Ideal S256x1 .f32) : IVec S256x4096 8 :=
  have v247 : FVec Ideal S256x4096 .f32 := broadcastTo S256x4096 s broadcasts_S256x1_S256x4096
  have v250 : FVec Ideal S256x4096 .f32 := broadcast S256x4096 (Scalar.ofBits .f32 0xC0E00000#32)
  have v252 : FVec Ideal S256x4096 .f32 := broadcast S256x4096 (Scalar.ofBits .f32 0x40E00000#32)
  fptosi 8 (minimumf v252 (maximumf v250 (roundeven (divf x v247))))

theorem pay45_eq (v : FVec Ideal S256x128 .f32) (x : Vec Ideal S256x4096 .f32) :
    k0_pay45 v x = codeVec x (k0_pay43 v) := rfl

theorem codeVec_apply (x : FVec Ideal S256x4096 .f32) (s : FVec Ideal S256x1 .f32) (r : Fin 256) (k : Fin 4096) :
    codeVec x s (ix2 r k) = Spec.codeOf (s (ix2 r 0)) (x (ix2 r k)) := by
  pointwise [codeVec]
  rfl

/-- The codes as they are stored. -/
theorem codes_apply (v : FVec Ideal S256x128 .f32) (x : Vec Ideal S256x4096 .f32) (r : Fin 256) (k : Fin 4096) :
    k0_pay46 v x (ix3 0 r k) = k0_pay45 v x (ix2 r k) := by
  have h : ∀ c : IVec S256x4096 8, shapeCast S1x256x4096 c shapeCasts_S256x4096_S1x256x4096 (ix3 0 r k) = c (ix2 r k) := by
    intro c; pointwise
  exact h (k0_pay45 v x)

/-- The integer products. -/
def accVec (c : IVec S256x4096 8) (w : IVec S3072x4096 8) : IVec S256x3072 32 :=
  matmulI8 IntMxuNumerics.v7x dot_S256x4096_S3072x4096_S256x3072_1_1_0_0_n_n c w (constantI S256x3072 32 0#32)

/-- The integer product at a token and an output, the token's codes within −7 … 7: the exact sum. -/
theorem accVec_apply (c : IVec S256x4096 8) (w : IVec S3072x4096 8) (r : Fin 256) (o : Fin 3072)
    (hc : ∀ k, (c (ix2 r k)).toInt.natAbs ≤ 7) :
    (accVec c w (ix2 r o)).toInt = ∑ k, (c (ix2 r k)).toInt * (w (ix2 o k)).toInt := by
  refine IntDot.matmulI8_row _ rfl rfl c w _ (fun k => c (ix2 r k)) (fun k => w (ix2 o k)) (fun k => ?_) (fun k => ?_) hc
  · rw [← Shape.Idx.norm_def (DotDims.lhsIdx _ _ _)]; pointwise
  · rw [← Shape.Idx.norm_def (DotDims.rhsIdx _ _ _)]; pointwise

/-- The products at the tokens' scales. -/
def scaledVec (acc : IVec S256x3072 32) (s : FVec Ideal S256x1 .f32) : FVec Ideal S256x3072 .f32 :=
  mulf (sitofp .f32 acc) (broadcastTo S256x3072 s broadcasts_S256x1_S256x3072)

theorem pay47_eq (v : FVec Ideal S256x128 .f32) (x : Vec Ideal S256x4096 .f32) (w : Vec Ideal S3072x4096 .i8) :
    k0_pay47 v x w = scaledVec (accVec (k0_pay45 v x) w) (k0_pay43 v) := rfl

theorem scaledVec_apply (acc : IVec S256x3072 32) (s : FVec Ideal S256x1 .f32) (r : Fin 256) (o : Fin 3072) :
    scaledVec acc s (ix2 r o) = (((acc (ix2 r o)).toInt : ℝ) : EReal) * s (ix2 r 0) := by
  pointwise [scaledVec]
  rfl

/-- The output of the block, at group `q` of eight tokens, token `e` in it. -/
theorem out_apply (v : FVec Ideal S256x3072 .f32) (ws : Vec Ideal S1x3072 .f32) (q : Fin 32) (e : Fin 8) (o : Fin 3072) :
    k0_pay1 v ws (ix3 q e o) = v (ix2 ⟨q.val * 8 + e.val, by omega⟩ o) * ws (ix2 0 o) := by
  pointwise [k0_pay1]

end Cert.Proof.KernelOps

end
-- ==== Proof.KernelOut.lean ====
/- Hand-written, untrusted: WHAT A GRID POINT LEAVES IN ITS THREE OUTPUT BUFFERS, in the payloads of KernelOps.lean. The run
   is generated as the stores it made; here its loads are read: the table and the weights whole, the block of activations
   in sixteen chunks (`ld_chunk`), and the scratch array, which sixteen stores of 256 columns fill, as the rotated rows
   (`scratch_eq`). -/
module

public import proofs.«01_k».proof.Proof.Gen.KernelIdeal.Value
import all proofs.«01_k».proof.Proof.Gen.KernelIdeal.Frame.RunA
public import proofs.«01_k».proof.Proof.KernelOps
public import Idealize.ShloMosaic.Lib.Pointwise

@[expose] public section

set_option maxRecDepth 16384

noncomputable section

namespace Cert.Proof.KernelOut

open Cert.KernelIdeal Cert.KernelIdeal.Gen Idealize.ShloMosaic Idealize.ShloMosaic.TcCoe Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- Chunk `g` of the block: its columns from `256 g`. -/
def chunkOf (x : Vec Ideal S1x256x4096 .bf16) (g : Nat) : Vec Ideal S1x256x256 .bf16 :=
  fun j => x (ix3 0 (j 1) ⟨(256 * g + (j 2).val) % 4096, Nat.mod_lt _ (by decide)⟩)

/-- A load of 256 columns from `256 g` reads chunk `g`. -/
theorem ld_chunk (x : Vec Ideal S1x256x4096 .bf16) (g : Nat) (hg : g < 16) (o : Nat) (ho : o = 256 * g)
    (inb : ∀ a, (![0, 0, o] : Fin 3 → Nat) a + (![1, 256, 256] : Fin 3 → Nat) a ≤ S1x256x4096.size a) :
    View.ld x (Rect.unit (s := S1x256x4096) ![0, 0, o] ![1, 256, 256] inb) = chunkOf x g := by
  funext j
  have h0 : (j 0).val < 1 := (j 0).isLt
  have h1 : (j 1).val < 256 := (j 1).isLt
  have h2 : (j 2).val < 256 := (j 2).isLt
  refine congrArg x (funext fun a => Fin.ext ?_)
  match a with
  | ⟨0, _⟩ => show 0 + 1 * (j 0).val = 0; omega
  | ⟨1, _⟩ => show 0 + 1 * (j 1).val = (j 1).val; omega
  | ⟨2, _⟩ => show o + 1 * (j 2).val = (256 * g + (j 2).val) % 4096; omega

/-- The sixteen stores into the scratch array, last first. -/
def pieces (T : Vec Ideal S256x256 .bf16) (l : Nat → Vec Ideal S1x256x256 .bf16) : List (View.Piece (Elt Ideal) S256x4096 .f32) :=
  [⟨Rect.unit ![0, 3840] ![256, 256] inb_S256x4096_S256x256_0_3840, k0_pay41 T (l 15)⟩,
    ⟨Rect.unit ![0, 3584] ![256, 256] inb_S256x4096_S256x256_0_3584, k0_pay39 T (l 14)⟩,
    ⟨Rect.unit ![0, 3328] ![256, 256] inb_S256x4096_S256x256_0_3328, k0_pay37 (k0_pay35 T (l 13))⟩,
    ⟨Rect.unit ![0, 3072] ![256, 256] inb_S256x4096_S256x256_0_3072, k0_pay33 T (l 12)⟩,
    ⟨Rect.unit ![0, 2816] ![256, 256] inb_S256x4096_S256x256_0_2816, k0_pay31 T (l 11)⟩,
    ⟨Rect.unit ![0, 2560] ![256, 256] inb_S256x4096_S256x256_0_2560, k0_pay29 (k0_pay28 T (l 10))⟩,
    ⟨Rect.unit ![0, 2304] ![256, 256] inb_S256x4096_S256x256_0_2304, k0_pay26 T (l 9)⟩,
    ⟨Rect.unit ![0, 2048] ![256, 256] inb_S256x4096_S256x256_0_2048, k0_pay24 T (l 8)⟩,
    ⟨Rect.unit ![0, 1792] ![256, 256] inb_S256x4096_S256x256_0_1792, k0_pay21 T (l 7)⟩,
    ⟨Rect.unit ![0, 1536] ![256, 256] inb_S256x4096_S256x256_0_1536, k0_pay19 T (l 6)⟩,
    ⟨Rect.unit ![0, 1280] ![256, 256] inb_S256x4096_S256x256_0_1280, k0_pay17 T (l 5)⟩,
    ⟨Rect.unit ![0, 1024] ![256, 256] inb_S256x4096_S256x256_0_1024, k0_pay14 T (l 4)⟩,
    ⟨Rect.unit ![0, 768] ![256, 256] inb_S256x4096_S256x256_0_768, k0_pay12 T (l 3)⟩,
    ⟨Rect.unit ![0, 512] ![256, 256] inb_S256x4096_S256x256_0_512, k0_pay10 (k0_pay7 T (l 2)) k0_pay8⟩,
    ⟨Rect.unit ![0, 256] ![256, 256] inb_S256x4096_S256x256_0_256, k0_pay5 T (l 1)⟩,
    ⟨Rect.unit ![0, 0] ![256, 256] inb_S256x4096_S256x256_0_0, k0_pay3 T (l 0)⟩]

/-- The rotated block, at an index of the scratch array. -/
def rotated (T : Vec Ideal S256x256 .bf16) (l : Nat → Vec Ideal S1x256x256 .bf16) : Vec Ideal S256x4096 .f32 :=
  fun j => KernelOps.row T l (j 0) (j 1)

theorem cast_self (c : FVec Ideal S256x256 .f32) : shapeCast S256x256 c shapeCasts_S256x256_S256x256 = c := by
  funext j; idx_vars j; pointwise

/-- A chunk's store puts the rotated block's columns from `256 g` in place. -/
theorem piece (T : Vec Ideal S256x256 .bf16) (l : Nat → Vec Ideal S1x256x256 .bf16) (g : Nat) (hg : g < 16) (o : Nat)
    (ho : o = 256 * g) (inb : ∀ a, (![0, o] : Fin 2 → Nat) a + (![256, 256] : Fin 2 → Nat) a ≤ S256x4096.size a)
    (w : Vec Ideal S256x256 .f32) (hw : w = shapeCast S256x256 (k0_pay2 T (l g)) shapeCasts_S256x256_S256x256) (x : S256x256.Idx) :
    w x = rotated T l ((Rect.unit (s := S256x4096) ![0, o] ![256, 256] inb).emb x) := by
  have h0 : (x 0).val < 256 := (x 0).isLt
  have h1 : (x 1).val < 256 := (x 1).isLt
  rw [hw, cast_self]
  show _ = KernelOps.row T l ⟨0 + 1 * (x 0).val, _⟩ ⟨o + 1 * (x 1).val, _⟩
  have e0 : (⟨0 + 1 * (x 0).val, by omega⟩ : Fin 256) = x 0 := Fin.ext (by show 0 + 1 * (x 0).val = (x 0).val; omega)
  have e1 : (⟨o + 1 * (x 1).val, by omega⟩ : Fin 4096) = ⟨256 * g + (x 1).val, by omega⟩ := Fin.ext (by
    show o + 1 * (x 1).val = 256 * g + (x 1).val; omega)
  rw [e0, e1]
  refine Eq.trans ?_ (KernelOps.row_at T l (x 0) g _ hg h1).symm
  refine congrArg _ (funext fun a => ?_)
  match a with
  | ⟨0, _⟩ => rfl
  | ⟨1, _⟩ => rfl

/-- THE SCRATCH ARRAY after the sixteen stores is the rotated block. -/
theorem scratch_eq (T : Vec Ideal S256x256 .bf16) (l : Nat → Vec Ideal S1x256x256 .bf16) :
    View.canon (pieces T l) = rotated T l := by
  funext y
  refine View.canon_apply_of_pieces (rotated T l) _ ?_ y (View.cover_of_tiledL (pieces T l) ![256, 256] (by sl_kernel_rfl) y)
  intro p hp
  unfold pieces at hp
  simp only [List.mem_cons, List.not_mem_nil, or_false] at hp
  rcases hp with rfl | rfl | rfl | rfl | rfl | rfl | rfl | rfl | rfl | rfl | rfl | rfl | rfl | rfl | rfl | rfl
  · exact piece T l 15 (by decide) 3840 rfl inb_S256x4096_S256x256_0_3840 _ rfl
  · exact piece T l 14 (by decide) 3584 rfl inb_S256x4096_S256x256_0_3584 _ rfl
  · exact piece T l 13 (by decide) 3328 rfl inb_S256x4096_S256x256_0_3328 _ rfl
  · exact piece T l 12 (by decide) 3072 rfl inb_S256x4096_S256x256_0_3072 _ rfl
  · exact piece T l 11 (by decide) 2816 rfl inb_S256x4096_S256x256_0_2816 _ rfl
  · exact piece T l 10 (by decide) 2560 rfl inb_S256x4096_S256x256_0_2560 _ rfl
  · exact piece T l 9 (by decide) 2304 rfl inb_S256x4096_S256x256_0_2304 _ rfl
  · exact piece T l 8 (by decide) 2048 rfl inb_S256x4096_S256x256_0_2048 _ rfl
  · exact piece T l 7 (by decide) 1792 rfl inb_S256x4096_S256x256_0_1792 _ rfl
  · exact piece T l 6 (by decide) 1536 rfl inb_S256x4096_S256x256_0_1536 _ rfl
  · exact piece T l 5 (by decide) 1280 rfl inb_S256x4096_S256x256_0_1280 _ rfl
  · exact piece T l 4 (by decide) 1024 rfl inb_S256x4096_S256x256_0_1024 _ rfl
  · exact piece T l 3 (by decide) 768 rfl inb_S256x4096_S256x256_0_768 _ rfl
  · exact piece T l 2 (by decide) 512 rfl inb_S256x4096_S256x256_0_512 _ rfl
  · exact piece T l 1 (by decide) 256 rfl inb_S256x4096_S256x256_0_256 _ rfl
  · exact piece T l 0 (by decide) 0 rfl inb_S256x4096_S256x256_0_0 _ rfl

theorem canon_whole (L : List (View.Piece (Elt Ideal) S256x4096 .f32)) :
    (fun j => View.canon L ((Rect.unit (s := S256x4096) ![0, 0] ![256, 4096] inb_S256x4096_S256x4096_0_0).idx j)) = View.canon L :=
  View.ld_unit_zero (S := S256x4096) hz2 _ (View.canon L)

variable (c : Dev nD) (i : grid0.Coords) (arg2 : Memref sig .tc .vmem S1x256x4096 .bf16) (harg2 : arg2.IsWhole)
  (arg3 : Memref sig .tc .vmem S256x256 .bf16) (harg3 : arg3.IsWhole) (arg4 : Memref sig .tc .vmem S3072x4096 .i8)
  (harg4 : arg4.IsWhole) (arg5 : Memref sig .tc .vmem S1x3072 .f32) (harg5 : arg5.IsWhole)
  (arg6 : Memref sig .tc .vmem S32x8x3072 .bf16) (harg6 : arg6.IsWhole) (arg7 : Memref sig .tc .vmem S1x256x4096 .i8)
  (harg7 : arg7.IsWhole) (arg8 : Memref sig .tc .vmem S1x1x256 .f32) (harg8 : arg8.IsWhole)
  (arg9 : Memref sig .tc .vmem S256x4096 .f32) (harg9 : arg9.IsWhole)
  (x0 : Vec Ideal S1x256x4096 .bf16) (x1 : Vec Ideal S256x256 .bf16) (x2 : Vec Ideal S3072x4096 .i8)
  (x3 : Vec Ideal S1x3072 .f32)

theorem ld0 : View.ld x0 (Rect.unit ![0, 0, 0] ![1, 256, 256] inb_S1x256x4096_S1x256x256_0_0_0) = chunkOf x0 0 :=
  ld_chunk x0 0 (by decide) _ rfl _
theorem ld1 : View.ld x0 (Rect.unit ![0, 0, 256] ![1, 256, 256] inb_S1x256x4096_S1x256x256_0_0_256) = chunkOf x0 1 :=
  ld_chunk x0 1 (by decide) _ rfl _
theorem ld2 : View.ld x0 (Rect.unit ![0, 0, 512] ![1, 256, 256] inb_S1x256x4096_S1x256x256_0_0_512) = chunkOf x0 2 :=
  ld_chunk x0 2 (by decide) _ rfl _
theorem ld3 : View.ld x0 (Rect.unit ![0, 0, 768] ![1, 256, 256] inb_S1x256x4096_S1x256x256_0_0_768) = chunkOf x0 3 :=
  ld_chunk x0 3 (by decide) _ rfl _
theorem ld4 : View.ld x0 (Rect.unit ![0, 0, 1024] ![1, 256, 256] inb_S1x256x4096_S1x256x256_0_0_1024) = chunkOf x0 4 :=
  ld_chunk x0 4 (by decide) _ rfl _
theorem ld5 : View.ld x0 (Rect.unit ![0, 0, 1280] ![1, 256, 256] inb_S1x256x4096_S1x256x256_0_0_1280) = chunkOf x0 5 :=
  ld_chunk x0 5 (by decide) _ rfl _
theorem ld6 : View.ld x0 (Rect.unit ![0, 0, 1536] ![1, 256, 256] inb_S1x256x4096_S1x256x256_0_0_1536) = chunkOf x0 6 :=
  ld_chunk x0 6 (by decide) _ rfl _
theorem ld7 : View.ld x0 (Rect.unit ![0, 0, 1792] ![1, 256, 256] inb_S1x256x4096_S1x256x256_0_0_1792) = chunkOf x0 7 :=
  ld_chunk x0 7 (by decide) _ rfl _
theorem ld8 : View.ld x0 (Rect.unit ![0, 0, 2048] ![1, 256, 256] inb_S1x256x4096_S1x256x256_0_0_2048) = chunkOf x0 8 :=
  ld_chunk x0 8 (by decide) _ rfl _
theorem ld9 : View.ld x0 (Rect.unit ![0, 0, 2304] ![1, 256, 256] inb_S1x256x4096_S1x256x256_0_0_2304) = chunkOf x0 9 :=
  ld_chunk x0 9 (by decide) _ rfl _
theorem ld10 : View.ld x0 (Rect.unit ![0, 0, 2560] ![1, 256, 256] inb_S1x256x4096_S1x256x256_0_0_2560) = chunkOf x0 10 :=
  ld_chunk x0 10 (by decide) _ rfl _
theorem ld11 : View.ld x0 (Rect.unit ![0, 0, 2816] ![1, 256, 256] inb_S1x256x4096_S1x256x256_0_0_2816) = chunkOf x0 11 :=
  ld_chunk x0 11 (by decide) _ rfl _
theorem ld12 : View.ld x0 (Rect.unit ![0, 0, 3072] ![1, 256, 256] inb_S1x256x4096_S1x256x256_0_0_3072) = chunkOf x0 12 :=
  ld_chunk x0 12 (by decide) _ rfl _
theorem ld13 : View.ld x0 (Rect.unit ![0, 0, 3328] ![1, 256, 256] inb_S1x256x4096_S1x256x256_0_0_3328) = chunkOf x0 13 :=
  ld_chunk x0 13 (by decide) _ rfl _
theorem ld14 : View.ld x0 (Rect.unit ![0, 0, 3584] ![1, 256, 256] inb_S1x256x4096_S1x256x256_0_0_3584) = chunkOf x0 14 :=
  ld_chunk x0 14 (by decide) _ rfl _
theorem ld15 : View.ld x0 (Rect.unit ![0, 0, 3840] ![1, 256, 256] inb_S1x256x4096_S1x256x256_0_0_3840) = chunkOf x0 15 :=
  ld_chunk x0 15 (by decide) _ rfl _
theorem ldT : View.ld x1 (Rect.unit ![0, 0] ![256, 256] inb_S256x256_S256x256_0_0) = x1 := View.ld_unit_zero (S := S256x256) hz2 _ _
theorem ldW : View.ld x2 (Rect.unit ![0, 0] ![3072, 4096] inb_S3072x4096_S3072x4096_0_0) = x2 := View.ld_unit_zero (S := S3072x4096) hz2 _ _
theorem ldWs : View.ld x3 (Rect.unit ![0, 0] ![1, 3072] inb_S1x3072_S1x3072_0_0) = x3 := View.ld_unit_zero (S := S1x3072) hz2 _ _

/-- The scales that a grid point leaves. -/
theorem out6 : out0_A_6 c i arg2 harg2 arg3 harg3 arg4 harg4 arg5 harg5 arg6 harg6 arg7 harg7 arg8 harg8 arg9 harg9 x0 x1 x2 x3
    = k0_pay44 (KernelOps.lanes x1 (chunkOf x0) 16) := by
  unfold out0_A_6
  rw [View.read_writes_junk_eq_canon]
  unfold kernelRun0_A
  dsimp only
  sl_unfold_words
  simp only [View.readAt_eq_ld, harg2.read_unread, harg3.read_unread]
  simp only [ld0, ld1, ld2, ld3, ld4, ld5, ld6, ld7, ld8, ld9, ld10, ld11, ld12, ld13, ld14, ld15, ldT]
  exact View.canon_unit_zero (S := S1x1x256) hz3 _ _

/-- The codes that a grid point leaves. -/
theorem out5 : out0_A_5 c i arg2 harg2 arg3 harg3 arg4 harg4 arg5 harg5 arg6 harg6 arg7 harg7 arg8 harg8 arg9 harg9 x0 x1 x2 x3
    = k0_pay46 (KernelOps.lanes x1 (chunkOf x0) 16) (rotated x1 (chunkOf x0)) := by
  unfold out0_A_5
  rw [View.read_writes_junk_eq_canon]
  unfold kernelRun0_A
  dsimp only
  sl_unfold_words
  simp only [View.readAt_eq_ld, harg2.read_unread, harg3.read_unread, View.readCov_eq_canon']
  simp only [ld0, ld1, ld2, ld3, ld4, ld5, ld6, ld7, ld8, ld9, ld10, ld11, ld12, ld13, ld14, ld15, ldT, canon_whole]
  rw [← scratch_eq]
  exact View.canon_unit_zero (S := S1x256x4096) hz3 _ _

/-- The outputs that a grid point leaves. -/
theorem out4 : out0_A_4 c i arg2 harg2 arg3 harg3 arg4 harg4 arg5 harg5 arg6 harg6 arg7 harg7 arg8 harg8 arg9 harg9 x0 x1 x2 x3
    = k0_pay1 (k0_pay47 (KernelOps.lanes x1 (chunkOf x0) 16) (rotated x1 (chunkOf x0)) x2) x3 := by
  unfold out0_A_4
  rw [View.read_writes_junk_eq_canon]
  unfold kernelRun0_A
  dsimp only
  sl_unfold_words
  simp only [View.readAt_eq_ld, harg2.read_unread, harg3.read_unread, harg4.read_unread, harg5.read_unread, View.readCov_eq_canon']
  simp only [ld0, ld1, ld2, ld3, ld4, ld5, ld6, ld7, ld8, ld9, ld10, ld11, ld12, ld13, ld14, ld15, ldT, ldW, ldWs, canon_whole]
  rw [← scratch_eq]
  exact View.canon_unit_zero (S := S32x8x3072) hz3 _ _

end Cert.Proof.KernelOut

end
-- ==== Proof.Layer.lean ====
/- Hand-written, untrusted: THE LAYER'S THREE RESULTS as functions of its three arguments, entry by entry: the activations
   `X` (batch, token, column), the weight codes `W` (output, column) and the weight scales `S`. A token's activations are
   rotated (Rotate.lean), quantised, multiplied and scaled back (Spec.lean). Tokens are counted in groups of eight in the
   output: group `q` holds tokens `8 q' … 8 q' + 7` of batch `q / 384`, with `q' = q % 384`. -/
module

public import proofs.«01_k».proof.Proof.Spec
public import proofs.«01_k».proof.Proof.Rotate

@[expose] public section

noncomputable section

namespace Cert.Proof.Layer

open Idealize.ShloMosaic

/-- The rotated activations of one token. -/
def rowOf (X : (⟨3, ![4, 3072, 4096]⟩ : Shape).Idx → EReal) (b : Fin 4) (n : Fin 3072) : Fin 4096 → EReal :=
  fun k => Rotate.rot (fun k => X (ix3 b n k)) k

/-- The codes: batch, token, column. -/
def codes (X : (⟨3, ![4, 3072, 4096]⟩ : Shape).Idx → EReal) : (⟨3, ![4, 3072, 4096]⟩ : Shape).Idx → BitVec 8 :=
  fun j => Spec.rowCode (rowOf X (j 0) (j 1)) (j 2)

/-- The scales: batch, 1, token. -/
def scales (X : (⟨3, ![4, 3072, 4096]⟩ : Shape).Idx → EReal) : (⟨3, ![4, 1, 3072]⟩ : Shape).Idx → EReal :=
  fun j => Spec.rowScale (rowOf X (j 0) (j 2))

/-- The output at group `q`, token `e` of the group, output column `o`. -/
def outAt (X : (⟨3, ![4, 3072, 4096]⟩ : Shape).Idx → EReal) (W : (⟨2, ![3072, 4096]⟩ : Shape).Idx → BitVec 8)
    (S : (⟨1, ![3072]⟩ : Shape).Idx → EReal) (q : Fin 1536) (e : Fin 8) (o : Fin 3072) : EReal :=
  Spec.rowOut (rowOf X ⟨q.val / 384, by omega⟩ ⟨q.val % 384 * 8 + e.val, by omega⟩) (fun k => W (ix2 o k)) (S (ix1 o))

/-- The output: group, token of the group, output column. -/
def out (X : (⟨3, ![4, 3072, 4096]⟩ : Shape).Idx → EReal) (W : (⟨2, ![3072, 4096]⟩ : Shape).Idx → BitVec 8)
    (S : (⟨1, ![3072]⟩ : Shape).Idx → EReal) : (⟨3, ![1536, 8, 3072]⟩ : Shape).Idx → EReal :=
  fun j => outAt X W S (j 0) (j 1) (j 2)

end Cert.Proof.Layer

end
-- ==== Proof.KernelBlock.lean ====
/- Hand-written, untrusted: WHAT ONE BLOCK OF THE KERNEL COMPUTES, as a whole: from a block `x` of 256 tokens, the table, the
   weight codes `w` and the weight scales `ws`, its scales, codes and outputs are those of the block's rotated rows
   (`scales_block`, `codes_block`, `out_block`), and a rotated row is the reference's rotation of the token (`row_eq`). -/
module

public import proofs.«01_k».proof.Proof.KernelOut
public import proofs.«01_k».proof.Proof.Layer

@[expose] public section

set_option maxRecDepth 16384

noncomputable section

namespace Cert.Proof.KernelBlock

open Cert.KernelIdeal Cert.KernelIdeal.Gen Idealize.ShloMosaic KernelOut

/-- With the kernel's table, a row of the rotated block is the rotated token. -/
theorem row_eq (T : Vec Ideal S256x256 .bf16) (hT : ∀ i j : Fin 256, T (ix2 i j) = Rotate.tile i j)
    (x : Vec Ideal S1x256x4096 .bf16) (r : Fin 256) :
    KernelOps.row T (chunkOf x) r = Rotate.rot fun k => x (ix3 0 r k) := by
  funext k
  rw [← Rotate.rotTile_eq]
  unfold KernelOps.row Rotate.rotTile
  rw [KernelOps.chunk_apply]
  refine congrArg (· * Rotate.norm) (Finset.sum_congr rfl fun i _ => ?_)
  rw [hT]
  refine congrArg (· * _) ?_
  show x (ix3 0 r ⟨(256 * (k.val / 256) + i.val) % 4096, _⟩) = x (ix3 0 r ⟨k.val / 256 * 256 + i.val, _⟩)
  congr 3
  omega

variable (T : Vec Ideal S256x256 .bf16) (x : Vec Ideal S1x256x4096 .bf16) (w : Vec Ideal S3072x4096 .i8)
  (ws : Vec Ideal S1x3072 .f32)

/-- The scale of token `r` of the block. -/
theorem scale_row (r : Fin 256) :
    k0_pay43 (KernelOps.lanes T (chunkOf x) 16) (ix2 r 0) = Spec.rowScale (KernelOps.row T (chunkOf x) r) := by
  rw [KernelOps.scale_apply, KernelOps.max_lanes]; rfl

/-- The codes of token `r` of the block. -/
theorem code_row (r : Fin 256) (k : Fin 4096) :
    k0_pay45 (KernelOps.lanes T (chunkOf x) 16) (rotated T (chunkOf x)) (ix2 r k)
      = Spec.rowCode (KernelOps.row T (chunkOf x) r) k := by
  rw [KernelOps.pay45_eq, KernelOps.codeVec_apply, scale_row]; rfl

/-- The scales that the block stores. -/
theorem scales_block (r : Fin 256) :
    k0_pay44 (KernelOps.lanes T (chunkOf x) 16) (ix3 0 0 r) = Spec.rowScale (KernelOps.row T (chunkOf x) r) := by
  rw [KernelOps.scales_apply, KernelOps.max_lanes]; rfl

/-- The codes that the block stores. -/
theorem codes_block (r : Fin 256) (k : Fin 4096) :
    k0_pay46 (KernelOps.lanes T (chunkOf x) 16) (rotated T (chunkOf x)) (ix3 0 r k)
      = Spec.rowCode (KernelOps.row T (chunkOf x) r) k := by
  rw [KernelOps.codes_apply, code_row]

/-- The outputs that the block stores, at group `q`, token `e` of the group, output column `o`. -/
theorem out_block (q : Fin 32) (e : Fin 8) (o : Fin 3072) :
    k0_pay1 (k0_pay47 (KernelOps.lanes T (chunkOf x) 16) (rotated T (chunkOf x)) w) ws (ix3 q e o)
      = Spec.rowOut (KernelOps.row T (chunkOf x) ⟨q.val * 8 + e.val, by omega⟩) (fun k => w (ix2 o k)) (ws (ix2 0 o)) := by
  rw [KernelOps.out_apply, KernelOps.pay47_eq, KernelOps.scaledVec_apply, scale_row, KernelOps.accVec_apply]
  · simp only [code_row]; rfl
  · intro k; rw [code_row]; exact IntDot.codeOf_abs _ _

end Cert.Proof.KernelBlock

end
-- ==== Proof.KernelArray.lean ====
/- Hand-written, untrusted: THE KERNEL'S THREE RESULT ARRAYS as functions of its arguments. Grid point `t` of 48 takes batch
   `t / 12` and the 256 tokens from `256 (t % 12)` (`iblk0`), the whole table (`iblk1`), the whole weight codes and
   scales (`iblk2`, `iblk3`), and writes one block of each result (`emb4` to `emb6`). Every index of a result is in some
   point's block, so each array is the layer's result (`final4` to `final6`). -/
module

public import proofs.«01_k».proof.Proof.KernelBlock

@[expose] public section

set_option maxRecDepth 16384

noncomputable section

namespace Cert.Proof.KernelArray

open Cert.KernelIdeal Cert.KernelIdeal.Gen Cert.KernelIdeal.Value Idealize.ShloMosaic Idealize.ShloMosaic.TcCoe Idealize.SL.Sem
open KernelOut

variable (m : (ℓ : Loc nD τ sig) → Buf (Elt Ideal) ℓ) (ρ : Dev nD → PrngReg) (c : Dev nD)

/-- The activations, the weight codes and the weight scales as launched. -/
abbrev X : Vec Ideal S4x3072x4096 .bf16 := m ((c : Thread nD τ).loc main_arg0)
abbrev W : Vec Ideal S3072x4096 .i8 := m ((c : Thread nD τ).loc main_arg1)
abbrev S : Vec Ideal S3072 .f32 := m ((c : Thread nD τ).loc main_arg2)

/-- The table as the region finds it. -/
theorem V_table : (V m c main_cst : Vec Ideal S256x256 .bf16)
    = fun i => Ideal.ofBits .bf16 (lit0 (S256x256.rowMajor i)) := by
  show StableHlo.after hostOps0 _ _ = _
  after_results
  rfl

/-- The weight scales as the region finds them: reshaped to one row. -/
theorem V_scales : (V m c main_v0 : Vec Ideal S1x3072 .f32) = shapeCast S1x3072 (S m c) shapeCasts_S3072_S1x3072 := by
  show StableHlo.after hostOps0 _ _ = _
  after_results
  rfl

theorem table_apply (i j : Fin 256) : (V m c main_cst : Vec Ideal S256x256 .bf16) (ix2 i j) = Rotate.tile i j := by
  rw [V_table]
  have h : S256x256.rowMajor (ix2 i j) = ⟨256 * i.val + j.val, by show _ < 65536; omega⟩ := by
    apply Fin.ext; refine (Shape.rowMajor_val_two _).trans ?_
    show i.val * 256 + j.val = 256 * i.val + j.val; omega
  show Ideal.ofBits .bf16 (lit0 (S256x256.rowMajor (ix2 i j))) = _
  rw [h]; rfl

theorem scales_apply (o : Fin 3072) : (V m c main_v0 : Vec Ideal S1x3072 .f32) (ix2 0 o) = S m c (ix1 o) := by
  rw [V_scales]; pointwise

/-! ## Where each window's block lies -/

theorem idx0 : ∀ t : Fin cfg0.N, win0_0.index t (0 : Fin 3) = t.val / 12 ∧ win0_0.index t (1 : Fin 3) = t.val % 12
    ∧ win0_0.index t (2 : Fin 3) = 0 := (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0
    ∧ win0_4.index t (2 : Fin 3) = 0 := (by decide +kernel : ∀ t : Fin grid0.N, _)
theorem idx5 : ∀ t : Fin cfg0.N, win0_5.index t (0 : Fin 3) = t.val / 12 ∧ win0_5.index t (1 : Fin 3) = t.val % 12
    ∧ win0_5.index t (2 : Fin 3) = 0 := (by decide +kernel : ∀ t : Fin grid0.N, _)
theorem idx6 : ∀ t : Fin cfg0.N, win0_6.index t (0 : Fin 3) = t.val / 12 ∧ win0_6.index t (1 : Fin 3) = 0
    ∧ win0_6.index t (2 : Fin 3) = t.val % 12 := (by decide +kernel : ∀ t : Fin grid0.N, _)

theorem lt48 (t : Fin cfg0.N) : t.val < 48 := t.isLt

/-- The batch of a grid point, and its token `r`. -/
def batch (t : Fin cfg0.N) : Fin 4 := ⟨t.val / 12, by have := lt48 t; omega⟩
def token (t : Fin cfg0.N) (r : Fin 256) : Fin 3072 := ⟨t.val % 12 * 256 + r.val, by omega⟩

theorem emb0 (t : Fin cfg0.N) (j : S1x256x4096.Idx) :
    ((cfg0.win 0).blk t).view.emb j = ix3 (batch t) (token t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 12; omega
  | ⟨1, _⟩ => show win0_0.index t (1 : Fin 3) * 256 + 1 * (j 1).val = t.val % 12 * 256 + (j 1).val; omega
  | ⟨2, _⟩ => show win0_0.index t (2 : Fin 3) * 4096 + 1 * (j 2).val = (j 2).val; omega

theorem emb1 (t : Fin cfg0.N) (j : S256x256.Idx) : ((cfg0.win 1).blk t).view.emb j = j := by
  obtain ⟨e0, e1⟩ := idx1 t
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem emb2 (t : Fin cfg0.N) (j : S3072x4096.Idx) : ((cfg0.win 2).blk t).view.emb j = j := by
  obtain ⟨e0, e1⟩ := idx2 t
  funext a; apply Fin.ext
  match a with
  | ⟨0, _⟩ => show win0_2.index t (0 : Fin 2) * 3072 + 1 * (j 0).val = (j 0).val; omega
  | ⟨1, _⟩ => show win0_2.index t (1 : Fin 2) * 4096 + 1 * (j 1).val = (j 1).val; omega

theorem emb3 (t : Fin cfg0.N) (j : S1x3072.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 3072 + 1 * (j 1).val = (j 1).val; omega

/-- The group of tokens `q` of a grid point. -/
def group (t : Fin cfg0.N) (q : Fin 32) : Fin 1536 := ⟨t.val * 32 + q.val, by have := lt48 t; omega⟩

theorem emb4 (t : Fin cfg0.N) (j : S32x8x3072.Idx) :
    ((cfg0.win 4).blk t).view.emb j = ix3 (group t (j 0)) (j 1) (j 2) := by
  obtain ⟨e0, e1, e2⟩ := idx4 t
  funext a; apply Fin.ext
  match a with
  | ⟨0, _⟩ => show win0_4.index t (0 : Fin 3) * 32 + 1 * (j 0).val = t.val * 32 + (j 0).val; omega
  | ⟨1, _⟩ => show win0_4.index t (1 : Fin 3) * 8 + 1 * (j 1).val = (j 1).val; omega
  | ⟨2, _⟩ => show win0_4.index t (2 : Fin 3) * 3072 + 1 * (j 2).val = (j 2).val; omega

theorem emb5 (t : Fin cfg0.N) (j : S1x256x4096.Idx) :
    ((cfg0.win 5).blk t).view.emb j = ix3 (batch t) (token t (j 1)) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 12; omega
  | ⟨1, _⟩ => show win0_5.index t (1 : Fin 3) * 256 + 1 * (j 1).val = t.val % 12 * 256 + (j 1).val; omega
  | ⟨2, _⟩ => show win0_5.index t (2 : Fin 3) * 4096 + 1 * (j 2).val = (j 2).val; omega

theorem emb6 (t : Fin cfg0.N) (j : S1x1x256.Idx) :
    ((cfg0.win 6).blk t).view.emb j = ix3 (batch t) 0 (token t (j 2)) := by
  obtain ⟨e0, e1, e2⟩ := idx6 t
  have h0 : (j 0).val < 1 := (j 0).isLt
  have h1 : (j 1).val < 1 := (j 1).isLt
  funext a; apply Fin.ext
  match a with
  | ⟨0, _⟩ => show win0_6.index t (0 : Fin 3) * 1 + 1 * (j 0).val = t.val / 12; omega
  | ⟨1, _⟩ => show win0_6.index t (1 : Fin 3) * 1 + 1 * (j 1).val = 0; omega
  | ⟨2, _⟩ => show win0_6.index t (2 : Fin 3) * 256 + 1 * (j 2).val = t.val % 12 * 256 + (j 2).val; omega

/-! ## What each input window holds at a grid point -/

theorem iblk0 (t : Fin cfg0.N) (r : Fin 256) (k : Fin 4096) :
    (iblk m c 0 t : Vec Ideal S1x256x4096 .bf16) (ix3 0 r k) = X m c (ix3 (batch t) (token t r) k) := by
  show V m c main_arg0 (((cfg0.win 0).blk t).view.emb (ix3 0 r k)) = _
  rw [emb0, V_main_arg0]; rfl

theorem iblk1 (t : Fin cfg0.N) (i j : Fin 256) :
    (iblk m c 1 t : Vec Ideal S256x256 .bf16) (ix2 i j) = Rotate.tile i j := by
  show V m c main_cst (((cfg0.win 1).blk t).view.emb (ix2 i j)) = _
  rw [emb1]; exact table_apply m c i j

theorem iblk2 (t : Fin cfg0.N) : (iblk m c 2 t : Vec Ideal S3072x4096 .i8) = W m c := by
  funext j
  show V m c main_arg1 (((cfg0.win 2).blk t).view.emb j) = _
  rw [emb2, V_main_arg1]

theorem iblk3 (t : Fin cfg0.N) (o : Fin 3072) : (iblk m c 3 t : Vec Ideal S1x3072 .f32) (ix2 0 o) = S m c (ix1 o) := by
  show V m c main_v0 (((cfg0.win 3).blk t).view.emb (ix2 0 o)) = _
  rw [emb3]; exact scales_apply m c o

/-- A rotated row of the point's block is the rotated token. -/
theorem row_block (t : Fin cfg0.N) (r : Fin 256) :
    KernelOps.row (iblk m c 1 t) (chunkOf (iblk m c 0 t)) r = Layer.rowOf (X m c) (batch t) (token t r) := by
  rw [KernelBlock.row_eq _ (iblk1 m c t)]
  show _ = Rotate.rot fun k => X m c (ix3 (batch t) (token t r) k)
  exact congrArg Rotate.rot (funext fun k => iblk0 m c t r k)

/-! ## What each grid point writes back, and the arrays -/

/-- The outputs that the point stores are the layer's, at the point's groups of tokens. -/
theorem block4 (t : Fin cfg0.N) (j : S32x8x3072.Idx) :
    k0_pay1 (k0_pay47 (KernelOps.lanes (iblk m c 1 t) (chunkOf (iblk m c 0 t)) 16)
      (rotated (iblk m c 1 t) (chunkOf (iblk m c 0 t))) (iblk m c 2 t)) (iblk m c 3 t) j
      = Layer.out (X m c) (W m c) (S m c) (ix3 (group t (j 0)) (j 1) (j 2)) := by
  have key : ∀ (q : Fin 32) (e : Fin 8) (o : Fin 3072),
      k0_pay1 (k0_pay47 (KernelOps.lanes (iblk m c 1 t) (chunkOf (iblk m c 0 t)) 16)
        (rotated (iblk m c 1 t) (chunkOf (iblk m c 0 t))) (iblk m c 2 t)) (iblk m c 3 t) (ix3 q e o)
        = Layer.outAt (X m c) (W m c) (S m c) (group t q) e o := by
    intro q e o
    have ht := lt48 t
    refine (KernelBlock.out_block _ _ _ _ q e o).trans ?_
    rw [row_block, iblk2]
    refine (congrArg _ (iblk3 m c t o)).trans ?_
    unfold Layer.outAt
    have eb : batch t = ⟨(group t q).val / 384, by omega⟩ := Fin.ext (by
      show t.val / 12 = (t.val * 32 + q.val) / 384; omega)
    have en : token t ⟨q.val * 8 + e.val, by omega⟩ = ⟨(group t q).val % 384 * 8 + e.val, by omega⟩ := Fin.ext (by
      show t.val % 12 * 256 + (q.val * 8 + e.val) = (t.val * 32 + q.val) % 384 * 8 + e.val; omega)
    rw [eb, en]
  idx_vars j
  exact key _ _ _

/-- The codes that the point stores are the layer's, at the point's tokens. -/
theorem block5 (t : Fin cfg0.N) (j : S1x256x4096.Idx) :
    k0_pay46 (KernelOps.lanes (iblk m c 1 t) (chunkOf (iblk m c 0 t)) 16)
      (rotated (iblk m c 1 t) (chunkOf (iblk m c 0 t))) j
      = Layer.codes (X m c) (ix3 (batch t) (token t (j 1)) (j 2)) := by
  have key : ∀ (u : Fin 1) (r : Fin 256) (k : Fin 4096),
      k0_pay46 (KernelOps.lanes (iblk m c 1 t) (chunkOf (iblk m c 0 t)) 16)
        (rotated (iblk m c 1 t) (chunkOf (iblk m c 0 t))) (ix3 u r k)
        = Spec.rowCode (Layer.rowOf (X m c) (batch t) (token t r)) k := by
    intro u r k
    obtain rfl : u = 0 := Subsingleton.elim _ _
    refine (KernelBlock.codes_block _ _ r k).trans ?_
    rw [row_block]
  idx_vars j
  exact key _ _ _

/-- The scales that the point stores are the layer's, at the point's tokens. -/
theorem block6 (t : Fin cfg0.N) (j : S1x1x256.Idx) :
    k0_pay44 (KernelOps.lanes (iblk m c 1 t) (chunkOf (iblk m c 0 t)) 16) j
      = Layer.scales (X m c) (ix3 (batch t) 0 (token t (j 2))) := by
  have key : ∀ (u v : Fin 1) (r : Fin 256),
      k0_pay44 (KernelOps.lanes (iblk m c 1 t) (chunkOf (iblk m c 0 t)) 16) (ix3 u v r)
        = Spec.rowScale (Layer.rowOf (X m c) (batch t) (token t r)) := by
    intro u v r
    obtain rfl : u = 0 := Subsingleton.elim _ _
    obtain rfl : v = 0 := Subsingleton.elim _ _
    refine (KernelBlock.scales_block _ _ r).trans ?_
    rw [row_block]
  idx_vars j
  exact key _ _ _

theorem flushed4_eq (t : Fin cfg0.N) : (dats m 0 c).flushed 4 t
    = ((cfg0.win 4).blk t).view.read (Elt Ideal) (Layer.out (X m c) (W m c) (S m c)) := by
  rw [flushed4_A, out4]
  funext j
  exact (block4 m c t j).trans (congrArg (Layer.out (X m c) (W m c) (S m c)) (emb4 t j).symm)

theorem flushed5_eq (t : Fin cfg0.N) : (dats m 0 c).flushed 5 t
    = ((cfg0.win 5).blk t).view.read (Elt Ideal) (Layer.codes (X m c)) := by
  rw [flushed5_A, out5]
  funext j
  exact (block5 m c t j).trans (congrArg (Layer.codes (X m c)) (emb5 t j).symm)

theorem flushed6_eq (t : Fin cfg0.N) : (dats m 0 c).flushed 6 t
    = ((cfg0.win 6).blk t).view.read (Elt Ideal) (Layer.scales (X m c)) := by
  rw [flushed6_A, out6]
  funext j
  exact (block6 m c t j).trans (congrArg (Layer.scales (X m c)) (emb6 t j).symm)

theorem covered4 (i : S1536x8x3072.Idx) :
    ∃ t : Fin cfg0.N, (cfg0.win 4).flush t = true ∧ i ∈ ((cfg0.win 4).blk t).view.set := by
  have h0 : (i 0).val < 1536 := (i 0).isLt
  refine ⟨⟨(i 0).val / 32, by show _ < grid0.N; rw [Gen.N_0]; omega⟩, flush0_4 _, ?_⟩
  have h := ((cfg0.win 4).blk (⟨(i 0).val / 32, by show _ < grid0.N; rw [Gen.N_0]; omega⟩ : Fin cfg0.N)).view.emb_mem_set
    (ix3 (n0 := 32) (n1 := 8) (n2 := 3072) ⟨(i 0).val % 32, by omega⟩ (i 1) (i 2))
  rw [emb4] at h
  have e : i = ix3 (n0 := 1536) (n1 := 8) (n2 := 3072)
      (group ⟨(i 0).val / 32, by show _ < grid0.N; rw [Gen.N_0]; omega⟩ ⟨(i 0).val % 32, by omega⟩) (i 1) (i 2) := by
    funext a; apply Fin.ext
    match a with
    | ⟨0, _⟩ => show (i 0).val = (i 0).val / 32 * 32 + (i 0).val % 32; omega
    | ⟨1, _⟩ => rfl
    | ⟨2, _⟩ => rfl
  exact (congrArg (fun y => y ∈ ((cfg0.win 4).blk _).view.set) e).mpr h

theorem covered5 (i : S4x3072x4096.Idx) :
    ∃ t : Fin cfg0.N, (cfg0.win 5).flush t = true ∧ i ∈ ((cfg0.win 5).blk t).view.set := by
  have h0 : (i 0).val < 4 := (i 0).isLt
  have h1 : (i 1).val < 3072 := (i 1).isLt
  refine ⟨⟨(i 0).val * 12 + (i 1).val / 256, by show _ < grid0.N; rw [Gen.N_0]; omega⟩, flush0_5 _, ?_⟩
  have h := ((cfg0.win 5).blk (⟨(i 0).val * 12 + (i 1).val / 256, by show _ < grid0.N; rw [Gen.N_0]; omega⟩ : Fin cfg0.N)).view.emb_mem_set
    (ix3 (n0 := 1) (n1 := 256) (n2 := 4096) 0 ⟨(i 1).val % 256, by omega⟩ (i 2))
  rw [emb5] at h
  have e : i = ix3 (n0 := 4) (n1 := 3072) (n2 := 4096)
      (batch ⟨(i 0).val * 12 + (i 1).val / 256, by show _ < grid0.N; rw [Gen.N_0]; omega⟩)
      (token ⟨(i 0).val * 12 + (i 1).val / 256, by show _ < grid0.N; rw [Gen.N_0]; omega⟩ ⟨(i 1).val % 256, by omega⟩) (i 2) := by
    funext a; apply Fin.ext
    match a with
    | ⟨0, _⟩ => show (i 0).val = ((i 0).val * 12 + (i 1).val / 256) / 12; omega
    | ⟨1, _⟩ => show (i 1).val = ((i 0).val * 12 + (i 1).val / 256) % 12 * 256 + (i 1).val % 256; omega
    | ⟨2, _⟩ => rfl
  exact (congrArg (fun y => y ∈ ((cfg0.win 5).blk _).view.set) e).mpr h

theorem covered6 (i : S4x1x3072.Idx) :
    ∃ t : Fin cfg0.N, (cfg0.win 6).flush t = true ∧ i ∈ ((cfg0.win 6).blk t).view.set := by
  have h0 : (i 0).val < 4 := (i 0).isLt
  have h1 : (i 1).val < 1 := (i 1).isLt
  have h2 : (i 2).val < 3072 := (i 2).isLt
  refine ⟨⟨(i 0).val * 12 + (i 2).val / 256, by show _ < grid0.N; rw [Gen.N_0]; omega⟩, flush0_6 _, ?_⟩
  have h := ((cfg0.win 6).blk (⟨(i 0).val * 12 + (i 2).val / 256, by show _ < grid0.N; rw [Gen.N_0]; omega⟩ : Fin cfg0.N)).view.emb_mem_set
    (ix3 (n0 := 1) (n1 := 1) (n2 := 256) 0 0 ⟨(i 2).val % 256, by omega⟩)
  rw [emb6] at h
  have e : i = ix3 (n0 := 4) (n1 := 1) (n2 := 3072)
      (batch ⟨(i 0).val * 12 + (i 2).val / 256, by show _ < grid0.N; rw [Gen.N_0]; omega⟩) 0
      (token ⟨(i 0).val * 12 + (i 2).val / 256, by show _ < grid0.N; rw [Gen.N_0]; omega⟩ ⟨(i 2).val % 256, by omega⟩) := by
    funext a; apply Fin.ext
    match a with
    | ⟨0, _⟩ => show (i 0).val = ((i 0).val * 12 + (i 2).val / 256) / 12; omega
    | ⟨1, _⟩ => show (i 1).val = 0; omega
    | ⟨2, _⟩ => show (i 2).val = ((i 0).val * 12 + (i 2).val / 256) % 12 * 256 + (i 2).val % 256; omega
  exact (congrArg (fun y => y ∈ ((cfg0.win 6).blk _).view.set) e).mpr h

/-- The output array after the run. -/
theorem final4 : (dats m 0 c).arrAt 4 cfg0.N = Layer.out (X m c) (W m c) (S m c) :=
  (dats m 0 c).arrAt_eq_of_cover 4 _ (fun t _ => flushed4_eq m c t) covered4

/-- The codes after the run. -/
theorem final5 : (dats m 0 c).arrAt 5 cfg0.N = Layer.codes (X m c) :=
  (dats m 0 c).arrAt_eq_of_cover 5 _ (fun t _ => flushed5_eq m c t) covered5

/-- The scales after the run. -/
theorem final6 : (dats m 0 c).arrAt 6 cfg0.N = Layer.scales (X m c) :=
  (dats m 0 c).arrAt_eq_of_cover 6 _ (fun t _ => flushed6_eq m c t) covered6

/-- THE KERNEL'S RUN: its three results are the layer's, its arguments unchanged. -/
theorem run : θ_run defs (onTc (τ := τ) (main (F := Ideal))) ⟨m, fun _ => 0, ρ⟩ fun r => ∀ c : Dev nD,
      r.2.mem ((c : Thread nD τ).loc main_v1_0) = Layer.out (X m c) (W m c) (S m c)
      ∧ r.2.mem ((c : Thread nD τ).loc main_v1_1) = Layer.codes (X m c)
      ∧ r.2.mem ((c : Thread nD τ).loc main_v1_2) = Layer.scales (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c),
    (h c).2.2.1.trans (final6 m c), (h c).2.2.2⟩) (run_blocks m ρ)

end Cert.Proof.KernelArray

end
-- ==== Proof.RefOps.lean ====
/- Hand-written, untrusted: WHAT THE REFERENCE COMPUTES, payload by payload and entry by entry, in the functions of one
   token (Spec.lean). Each payload is written as a chain of functions of whole vectors (`pay3_eq` to `pay5_eq`), and each
   of those is read at an index; so no statement carries more than one of them open. -/
module

public import proofs.«01_k».proof.Proof.Gen.ReferenceIdeal.Skeleton
public import proofs.«01_k».proof.Proof.Spec
public import proofs.«01_k».proof.Proof.IntDot
public import Idealize.ShloMosaic.Lib.Pointwise

@[expose] public section

set_option maxRecDepth 16384

noncomputable section

namespace Cert.Proof.RefOps

open Cert.ReferenceIdeal Cert.ReferenceIdeal.Gen Idealize.ShloMosaic

/-- The magnitudes' maximum along each row. -/
def maxVec (xr : FVec Ideal S4x3072x4096 .f32) : FVec Ideal S4x3072 .f32 :=
  multiReduction .maximumf [2] S4x3072 (absf xr) 0xFF800000#32 reduces_S4x3072x4096_S4x3072 (.inl rfl) rfl

/-- The scales of the maxima. -/
def scaleVec (v7 : FVec Ideal S4x3072 .f32) : FVec Ideal S4x3072x1 .f32 :=
  have v8 : FVec Ideal S4x3072x1 .f32 := shapeCast S4x3072x1 v7 shapeCasts_S4x3072_S4x3072x1
  have v9 : FVec Ideal S4x3072x1 .f32 := broadcast S4x3072x1 (Scalar.ofBits .f32 0x00000000#32)
  have v11 : FVec Ideal S4x3072x1 .f32 := broadcast S4x3072x1 (Scalar.ofBits .f32 0x40E00000#32)
  have v13 : FVec Ideal S4x3072x1 .f32 := broadcast S4x3072x1 (Scalar.ofBits .f32 0x3F800000#32)
  select (cmpf .ogt v8 v9) (divf v8 v11) v13

/-- The codes of the rotated rows at the scales. -/
def codeVec (xr : FVec Ideal S4x3072x4096 .f32) (s : FVec Ideal S4x3072x1 .f32) : IVec S4x3072x4096 8 :=
  have v15 : FVec Ideal S4x3072x4096 .f32 := broadcastTo S4x3072x4096 s broadcasts_S4x3072x1_S4x3072x4096
  have v18 : FVec Ideal S4x3072x4096 .f32 := broadcast S4x3072x4096 (Scalar.ofBits .f32 0xC0E00000#32)
  have v20 : FVec Ideal S4x3072x4096 .f32 := broadcast S4x3072x4096 (Scalar.ofBits .f32 0x40E00000#32)
  fptosi 8 (minimumf v20 (maximumf v18 (roundeven (divf xr v15))))

/-- The integer products. -/
def accVec (c : IVec S4x3072x4096 8) (w : IVec S3072x4096 8) : IVec S4x3072x3072 32 :=
  matmulI8 IntMxuNumerics.v7x dot_S4x3072x4096_S3072x4096_S4x3072x3072_2_1_01_0_n_n c w (constantI S4x3072x3072 32 0#32)

/-- The outputs of the integer products. -/
def outVec (acc : IVec S4x3072x3072 32) (s : FVec Ideal S4x3072x1 .f32) (ws : Vec Ideal S3072 .f32) : FVec Ideal S1536x8x3072 .bf16 :=
  have v26 : FVec Ideal S4x3072x3072 .f32 := broadcastTo S4x3072x3072 s broadcasts_S4x3072x1_S4x3072x3072
  have v29 : FVec Ideal S1x1x3072 .f32 := shapeCast S1x1x3072 ws shapeCasts_S3072_S1x1x3072
  have v30 : FVec Ideal S4x3072x3072 .f32 := broadcastTo S4x3072x3072 v29 broadcasts_S1x1x3072_S4x3072x3072
  have v31 : FVec Ideal S4x3072x3072 .f32 := mulf (mulf (sitofp .f32 acc) v26) v30
  shapeCast S1536x8x3072 (truncf .bf16 v31 bitsLt_bf16_f32) shapeCasts_S4x3072x3072_S1536x8x3072

/-- The reference's scale payload in these parts. -/
theorem pay3_eq (T : Vec Ideal S4x3072x4096 .bf16) (h : Vec Ideal S128x128 .f32) :
    k0_pay3 T h = scaleVec (maxVec (k0_pay2 T h)) := rfl

/-- The reference's code payload in these parts. -/
theorem pay4_eq (T : Vec Ideal S4x3072x4096 .bf16) (h : Vec Ideal S128x128 .f32) :
    k0_pay4 T h = codeVec (k0_pay2 T h) (k0_pay3 T h) := rfl

/-- The reference's output payload in these parts. -/
theorem pay5_eq (T : Vec Ideal S4x3072x4096 .bf16) (h : Vec Ideal S128x128 .f32) (w : Vec Ideal S3072x4096 .i8) (ws : Vec Ideal S3072 .f32) :
    k0_pay5 T h w ws = outVec (accVec (k0_pay4 T h) w) (k0_pay3 T h) ws := rfl

/-- The maximum at a token is the greatest magnitude of its row. -/
theorem maxVec_apply (xr : FVec Ideal S4x3072x4096 .f32) (b : Fin 4) (n : Fin 3072) :
    maxVec xr (ix2 b n) = Spec.rowMax fun k => xr (ix3 b n k) := by
  pointwise [maxVec]
  rfl

/-- The scale at a token. -/
theorem scaleVec_apply (a : FVec Ideal S4x3072 .f32) (b : Fin 4) (n : Fin 3072) :
    scaleVec a (ix3 b n 0) = Spec.scaleOf (a (ix2 b n)) := by
  pointwise [scaleVec]
  rfl

/-- The code at a token and column. -/
theorem codeVec_apply (xr : FVec Ideal S4x3072x4096 .f32) (s : FVec Ideal S4x3072x1 .f32) (b : Fin 4) (n : Fin 3072) (k : Fin 4096) :
    codeVec xr s (ix3 b n k) = Spec.codeOf (s (ix3 b n 0)) (xr (ix3 b n k)) := by
  pointwise [codeVec]
  rfl

/-- The output at group `q` of eight tokens, token `e` in it: the token's row of the integer product, scaled. -/
theorem outVec_apply (acc : IVec S4x3072x3072 32) (s : FVec Ideal S4x3072x1 .f32) (ws : Vec Ideal S3072 .f32)
    (q : Fin 1536) (e : Fin 8) (o : Fin 3072) (b : Fin 4) (n : Fin 3072) (hq : q.val / 384 = b.val) (hn : q.val % 384 * 8 + e.val = n.val) :
    outVec acc s ws (ix3 q e o) = (((acc (ix3 b n o)).toInt : ℝ) : EReal) * s (ix3 b n 0) * ws (ix1 o) := by
  have hb : q.val / 384 < 4 := by omega
  have hn' : q.val % 384 * 8 + e.val < 3072 := by omega
  have e1 : b = ⟨q.val / 384, hb⟩ := Fin.ext hq.symm
  have e2 : n = ⟨q.val % 384 * 8 + e.val, hn'⟩ := Fin.ext hn.symm
  subst e1 e2
  pointwise [outVec]
  rfl

/-- The rotated activations: each row rotated by the table. -/
theorem pay2_apply (x : Vec Ideal S4x3072x4096 .bf16) (h : Vec Ideal S128x128 .f32) (b : Fin 4) (n : Fin 3072) (k : Fin 4096) :
    k0_pay2 x h (ix3 b n k)
      = ∑ i : Fin 128, x (ix3 b n ⟨k.val / 128 * 128 + i.val, by omega⟩) * h (ix2 i ⟨k.val % 128, by omega⟩) := by
  pointwise [k0_pay2]

/-- The scales laid out with the tokens last. -/
theorem pay1_apply (s : FVec Ideal S4x3072x1 .f32) (b : Fin 4) (n : Fin 3072) :
    k0_pay1 s (ix3 b 0 n) = s (ix3 b n 0) := by
  pointwise [k0_pay1]

/-- The integer product at a token and an output, the token's codes within −7 … 7: the exact sum. -/
theorem accVec_apply (c : IVec S4x3072x4096 8) (w : IVec S3072x4096 8) (b : Fin 4) (n : Fin 3072) (o : Fin 3072)
    (hc : ∀ k, (c (ix3 b n k)).toInt.natAbs ≤ 7) :
    (accVec c w (ix3 b n o)).toInt = ∑ k, (c (ix3 b n k)).toInt * (w (ix2 o k)).toInt := by
  refine IntDot.matmulI8_row _ rfl rfl c w _ (fun k => c (ix3 b n k)) (fun k => w (ix2 o k)) (fun k => ?_) (fun k => ?_) hc
  · rw [← Shape.Idx.norm_def (DotDims.lhsIdx _ _ _)]; pointwise
  · rw [← Shape.Idx.norm_def (DotDims.rhsIdx _ _ _)]; pointwise

end Cert.Proof.RefOps

end
-- ==== Proof.RefValue.lean ====
/- Hand-written, untrusted: THE REFERENCE'S THREE RESULT ARRAYS as functions of its arguments. It has one grid point, at which
   every window's block is its whole array (`emb0` to `emb6`), so each result is a payload of the arguments (`out4` to
   `out6`); read entry by entry (RefOps.lean) the payloads are the layer's results (`out_ref`, `codes_ref`,
   `scales_ref`). -/
module

public import proofs.«01_k».proof.Proof.Gen.ReferenceIdeal.Value
public import proofs.«01_k».proof.Proof.RefOps
public import proofs.«01_k».proof.Proof.Layer

@[expose] public section

set_option maxRecDepth 16384

noncomputable section

namespace Cert.Proof.RefValue

open Cert.ReferenceIdeal Cert.ReferenceIdeal.Gen Cert.ReferenceIdeal.Value Idealize.ShloMosaic Idealize.ShloMosaic.TcCoe Idealize.SL.Sem

/-! ## The payloads -/

section Payload

variable (x : Vec Ideal S4x3072x4096 .bf16) (h : Vec Ideal S128x128 .f32)
  (hh : ∀ i j : Fin 128, h (ix2 i j) = Rotate.had i j)

include hh

/-- A row of the rotated activations. -/
theorem rot_ref (b : Fin 4) (n : Fin 3072) (k : Fin 4096) : k0_pay2 x h (ix3 b n k) = Layer.rowOf x b n k := by
  rw [RefOps.pay2_apply]
  unfold Layer.rowOf Rotate.rot
  refine Finset.sum_congr rfl fun i _ => ?_
  rw [hh]

theorem max_ref (b : Fin 4) (n : Fin 3072) :
    RefOps.maxVec (k0_pay2 x h) (ix2 b n) = Spec.rowMax (Layer.rowOf x b n) := by
  rw [RefOps.maxVec_apply]
  exact congrArg Spec.rowMax (funext fun k => rot_ref x h hh b n k)

theorem scale_ref (b : Fin 4) (n : Fin 3072) : k0_pay3 x h (ix3 b n 0) = Spec.rowScale (Layer.rowOf x b n) := by
  rw [RefOps.pay3_eq, RefOps.scaleVec_apply, max_ref x h hh]; rfl

theorem code_ref (b : Fin 4) (n : Fin 3072) (k : Fin 4096) :
    k0_pay4 x h (ix3 b n k) = Spec.rowCode (Layer.rowOf x b n) k := by
  rw [RefOps.pay4_eq, RefOps.codeVec_apply, scale_ref x h hh, rot_ref x h hh]; rfl

/-- The codes are the layer's. -/
theorem codes_ref : k0_pay4 x h = Layer.codes x := by
  funext j; idx_vars j; exact code_ref x h hh _ _ _

/-- The scales are the layer's. -/
theorem scales_ref : k0_pay1 (k0_pay3 x h) = Layer.scales x := by
  have key : ∀ (b : Fin 4) (u : Fin 1) (n : Fin 3072), k0_pay1 (k0_pay3 x h) (ix3 b u n) = Layer.scales x (ix3 b u n) := by
    intro b u n
    obtain rfl : u = 0 := Subsingleton.elim _ _
    rw [RefOps.pay1_apply, scale_ref x h hh]; rfl
  funext j; idx_vars j; exact key _ _ _

/-- The output is the layer's. -/
theorem out_ref (w : Vec Ideal S3072x4096 .i8) (ws : Vec Ideal S3072 .f32) : k0_pay5 x h w ws = Layer.out x w ws := by
  have key : ∀ (q : Fin 1536) (e : Fin 8) (o : Fin 3072), k0_pay5 x h w ws (ix3 q e o) = Layer.outAt x w ws q e o := by
    intro q e o
    rw [RefOps.pay5_eq, RefOps.outVec_apply _ _ _ q e o ⟨q.val / 384, by omega⟩ ⟨q.val % 384 * 8 + e.val, by omega⟩ rfl rfl,
      scale_ref x h hh, RefOps.accVec_apply]
    · simp only [code_ref x h hh]; rfl
    · intro k; rw [code_ref x h hh]; exact IntDot.codeOf_abs _ _
  funext j; idx_vars j; exact key _ _ _

end Payload

/-! ## The buffers at the one grid point -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section Out

variable (x0 : Vec Ideal S4x3072x4096 .bf16) (x1 : Vec Ideal S128x128 .f32) (x2 : Vec Ideal S3072x4096 .i8)
  (x3 : Vec Ideal S3072 .f32)

theorem ld0 : View.ld x0 r0_0 = x0 := View.ld_unit_zero (S := S4x3072x4096) hz3 _ _
theorem ld1 : View.ld x1 r0_1 = x1 := View.ld_unit_zero (S := S128x128) hz2 _ _
theorem ld2 : View.ld x2 r0_2 = x2 := View.ld_unit_zero (S := S3072x4096) hz2 _ _
theorem ld3 : View.ld x3 r0_3 = x3 := View.ld_unit_zero (S := S3072) hz1 _ _

theorem out4 : out0_4 x0 x1 x2 x3 = k0_pay5 x0 x1 x2 x3 := by
  unfold out0_4
  rw [ld0, ld1, ld2, ld3]
  exact View.canon_unit_zero (S := S1536x8x3072) hz3 _ _

theorem out5 : out0_5 x0 x1 x2 x3 = k0_pay4 x0 x1 := by
  unfold out0_5
  rw [ld0, ld1]
  exact View.canon_unit_zero (S := S4x3072x4096) hz3 _ _

theorem out6 : out0_6 x0 x1 x2 x3 = k0_pay1 (k0_pay3 x0 x1) := by
  unfold out0_6
  rw [ld0, ld1]
  exact View.canon_unit_zero (S := S4x1x3072) hz3 _ _

end Out

variable (m : (ℓ : Loc nD τ sig) → Buf (Elt Ideal) ℓ) (ρ : Dev nD → PrngReg) (c : Dev nD)

/-- The activations, the weight codes and the weight scales as launched. -/
abbrev X : Vec Ideal S4x3072x4096 .bf16 := m ((c : Thread nD τ).loc main_arg0)
abbrev W : Vec Ideal S3072x4096 .i8 := m ((c : Thread nD τ).loc main_arg1)
abbrev S : Vec Ideal S3072 .f32 := m ((c : Thread nD τ).loc main_arg2)

/-- The matrix as the region finds it. -/
theorem V_had : (V m c main_cst : Vec Ideal S128x128 .f32) = fun i => Ideal.ofBits .f32 (lit0 (S128x128.rowMajor i)) := by
  show StableHlo.after hostOps0 _ _ = _
  after_results
  rfl

theorem had_apply (i j : Fin 128) : (V m c main_cst : Vec Ideal S128x128 .f32) (ix2 i j) = Rotate.had i j := by
  rw [V_had]
  have h : S128x128.rowMajor (ix2 i j) = ⟨128 * i.val + j.val, by show _ < 16384; omega⟩ := by
    apply Fin.ext; refine (Shape.rowMajor_val_two _).trans ?_
    show i.val * 128 + j.val = 128 * i.val + j.val; omega
  show Ideal.ofBits .f32 (lit0 (S128x128.rowMajor (ix2 i j))) = _
  rw [h]; rfl

/-! ## Each window's block is its whole array -/

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb0 (t : Fin cfg0.N) (j : S4x3072x4096.Idx) : ((cfg0.win 0).blk t).view.emb j = j := by
  obtain ⟨e0, e1, e2⟩ := idx0 t
  funext a; apply Fin.ext
  match a with
  | ⟨0, _⟩ => show win0_0.index t (0 : Fin 3) * 4 + 1 * (j 0).val = (j 0).val; omega
  | ⟨1, _⟩ => show win0_0.index t (1 : Fin 3) * 3072 + 1 * (j 1).val = (j 1).val; omega
  | ⟨2, _⟩ => show win0_0.index t (2 : Fin 3) * 4096 + 1 * (j 2).val = (j 2).val; omega

theorem emb1 (t : Fin cfg0.N) (j : S128x128.Idx) : ((cfg0.win 1).blk t).view.emb j = j := by
  obtain ⟨e0, e1⟩ := idx1 t
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem emb2 (t : Fin cfg0.N) (j : S3072x4096.Idx) : ((cfg0.win 2).blk t).view.emb j = j := by
  obtain ⟨e0, e1⟩ := idx2 t
  funext a; apply Fin.ext
  match a with
  | ⟨0, _⟩ => show win0_2.index t (0 : Fin 2) * 3072 + 1 * (j 0).val = (j 0).val; omega
  | ⟨1, _⟩ => show win0_2.index t (1 : Fin 2) * 4096 + 1 * (j 1).val = (j 1).val; omega

theorem emb3 (t : Fin cfg0.N) (j : S3072.Idx) : ((cfg0.win 3).blk t).view.emb j = j := by
  have e0 := idx3 t
  funext a; apply Fin.ext
  match a with
  | ⟨0, _⟩ => show win0_3.index t (0 : Fin 1) * 3072 + 1 * (j 0).val = (j 0).val; omega

theorem emb4 (t : Fin cfg0.N) (j : S1536x8x3072.Idx) : ((cfg0.win 4).blk t).view.emb j = j := by
  obtain ⟨e0, e1, e2⟩ := idx4 t
  funext a; apply Fin.ext
  match a with
  | ⟨0, _⟩ => show win0_4.index t (0 : Fin 3) * 1536 + 1 * (j 0).val = (j 0).val; omega
  | ⟨1, _⟩ => show win0_4.index t (1 : Fin 3) * 8 + 1 * (j 1).val = (j 1).val; omega
  | ⟨2, _⟩ => show win0_4.index t (2 : Fin 3) * 3072 + 1 * (j 2).val = (j 2).val; omega

theorem emb5 (t : Fin cfg0.N) (j : S4x3072x4096.Idx) : ((cfg0.win 5).blk t).view.emb j = j := by
  obtain ⟨e0, e1, e2⟩ := idx5 t
  funext a; apply Fin.ext
  match a with
  | ⟨0, _⟩ => show win0_5.index t (0 : Fin 3) * 4 + 1 * (j 0).val = (j 0).val; omega
  | ⟨1, _⟩ => show win0_5.index t (1 : Fin 3) * 3072 + 1 * (j 1).val = (j 1).val; omega
  | ⟨2, _⟩ => show win0_5.index t (2 : Fin 3) * 4096 + 1 * (j 2).val = (j 2).val; omega

theorem emb6 (t : Fin cfg0.N) (j : S4x1x3072.Idx) : ((cfg0.win 6).blk t).view.emb j = j := by
  obtain ⟨e0, e1, e2⟩ := idx6 t
  funext a; apply Fin.ext
  match a with
  | ⟨0, _⟩ => show win0_6.index t (0 : Fin 3) * 4 + 1 * (j 0).val = (j 0).val; omega
  | ⟨1, _⟩ => show win0_6.index t (1 : Fin 3) * 1 + 1 * (j 1).val = (j 1).val; omega
  | ⟨2, _⟩ => show win0_6.index t (2 : Fin 3) * 3072 + 1 * (j 2).val = (j 2).val; omega

theorem iblk0 (t : Fin cfg0.N) : (iblk m c 0 t : Vec Ideal S4x3072x4096 .bf16) = X m c := by
  funext j
  show V m c main_arg0 (((cfg0.win 0).blk t).view.emb j) = _
  rw [emb0, V_main_arg0]

theorem iblk1 (t : Fin cfg0.N) (i j : Fin 128) : (iblk m c 1 t : Vec Ideal S128x128 .f32) (ix2 i j) = Rotate.had i j := by
  show V m c main_cst (((cfg0.win 1).blk t).view.emb (ix2 i j)) = _
  rw [emb1]; exact had_apply m c i j

theorem iblk2 (t : Fin cfg0.N) : (iblk m c 2 t : Vec Ideal S3072x4096 .i8) = W m c := by
  funext j
  show V m c main_arg1 (((cfg0.win 2).blk t).view.emb j) = _
  rw [emb2, V_main_arg1]

theorem iblk3 (t : Fin cfg0.N) : (iblk m c 3 t : Vec Ideal S3072 .f32) = S m c := by
  funext j
  show V m c main_arg2 (((cfg0.win 3).blk t).view.emb j) = _
  rw [emb3, V_main_arg2]

theorem flushed4_eq (t : Fin cfg0.N) : (dats m 0 c).flushed 4 t
    = ((cfg0.win 4).blk t).view.read (Elt Ideal) (Layer.out (X m c) (W m c) (S m c)) := by
  rw [flushed4, out4, iblk0, iblk2, iblk3, out_ref _ _ (iblk1 m c t)]
  funext j
  show Layer.out (X m c) (W m c) (S m c) j = Layer.out (X m c) (W m c) (S m c) (((cfg0.win 4).blk t).view.emb j)
  rw [emb4]

theorem flushed5_eq (t : Fin cfg0.N) : (dats m 0 c).flushed 5 t
    = ((cfg0.win 5).blk t).view.read (Elt Ideal) (Layer.codes (X m c)) := by
  rw [flushed5, out5, iblk0, codes_ref _ _ (iblk1 m c t)]
  funext j
  show Layer.codes (X m c) j = Layer.codes (X m c) (((cfg0.win 5).blk t).view.emb j)
  rw [emb5]

theorem flushed6_eq (t : Fin cfg0.N) : (dats m 0 c).flushed 6 t
    = ((cfg0.win 6).blk t).view.read (Elt Ideal) (Layer.scales (X m c)) := by
  rw [flushed6, out6, iblk0, scales_ref _ _ (iblk1 m c t)]
  funext j
  show Layer.scales (X m c) j = Layer.scales (X m c) (((cfg0.win 6).blk t).view.emb j)
  rw [emb6]

theorem covered4 (i : S1536x8x3072.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem covered5 (i : S4x3072x4096.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem covered6 (i : S4x1x3072.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

/-- The output array after the run. -/
theorem final4 : (dats m 0 c).arrAt 4 cfg0.N = Layer.out (X m c) (W m c) (S m c) :=
  (dats m 0 c).arrAt_eq_of_cover 4 _ (fun t _ => flushed4_eq m c t) covered4

/-- The codes after the run. -/
theorem final5 : (dats m 0 c).arrAt 5 cfg0.N = Layer.codes (X m c) :=
  (dats m 0 c).arrAt_eq_of_cover 5 _ (fun t _ => flushed5_eq m c t) covered5

/-- The scales after the run. -/
theorem final6 : (dats m 0 c).arrAt 6 cfg0.N = Layer.scales (X m c) :=
  (dats m 0 c).arrAt_eq_of_cover 6 _ (fun t _ => flushed6_eq m c t) covered6

/-- THE REFERENCE'S RUN: its three results are the layer's, its arguments unchanged. -/
theorem run : θ_run defs (onTc (τ := τ) (main (F := Ideal))) ⟨m, fun _ => 0, ρ⟩ fun r => ∀ c : Dev nD,
      r.2.mem ((c : Thread nD τ).loc main_v0_0) = Layer.out (X m c) (W m c) (S m c)
      ∧ r.2.mem ((c : Thread nD τ).loc main_v0_1) = Layer.codes (X m c)
      ∧ r.2.mem ((c : Thread nD τ).loc main_v0_2) = Layer.scales (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c),
    (h c).2.2.1.trans (final6 m c), (h c).2.2.2⟩) (run_blocks m ρ)

end Cert.Proof.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- THE EQUATION: from equal arguments the kernel and the reference end with the same three results, for every input. -/
theorem algebraic :
    algebraic_KernelIdeal_ReferenceIdeal (hKernelIdeal := Cert.KernelIdeal.Gen.facts)
      (hReferenceIdeal := Cert.ReferenceIdeal.Gen.facts) := by
  intro m g m' g' _ hm
  refine ⟨fun c => Layer.out (KernelArray.X m c) (KernelArray.W m c) (KernelArray.S m c),
    fun c => Layer.codes (KernelArray.X m c), fun c => Layer.scales (KernelArray.X m c), KernelArray.run m g, ?_⟩
  refine (θ_run _ _ _).mono (fun _ h c => ?_) (RefValue.run m' g')
  obtain ⟨e0, e1, e2⟩ := hm c
  obtain ⟨h0, h1, h2, h3⟩ := h c
  have x : RefValue.X m' c = KernelArray.X m c := e0
  have w : RefValue.W m' c = KernelArray.W m c := e1
  have s : RefValue.S m' c = KernelArray.S m c := e2
  rw [x, w, s] at h0
  rw [x] at h1 h2
  exact ⟨h0, h1, h2, h3⟩

/-- Everything this certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
